-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v106) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_v101) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
-- ==== Pre_tables_in_range.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S224 : S_.BroadcastsInDim S224 (![] : Fin 0 → Fin S224.rank)
  bcast_S_S1 : S_.BroadcastsInDim S1 (![] : Fin 0 → Fin S1.rank)

variable [Facts]

def fn {F : FTy → Type} [FloatOps F] (main_arg0 : IVec S224 32) (main_arg1 : IVec S1 32) (main_arg2 : FVec F S57344x1024 .f32) (main_arg3 : FVec F S32x1024x2048 .f32) (main_arg4 : FVec F S32x2048 .f32) (main_arg5 : FVec F S32x1024x1024 .f32) (main_arg6 : FVec F S32x1024 .f32) : IVec S224 1 × IVec S224 1 × IVec S1 1 :=
  let main_c : IVec S_ 32 := constantI S_ 32 0#32
  let main_v0 : IVec S224 32 := broadcastInDim S224 ![] bcast_S_S224 main_c
  let main_v1 : IVec S224 1 := cmpi .sge main_arg0 main_v0
  let main_c_0 : IVec S_ 32 := constantI S_ 32 32#32
  let main_v2 : IVec S224 32 := broadcastInDim S224 ![] bcast_S_S224 main_c_0
  let main_v3 : IVec S224 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S256x256 : Shape := ⟨2, ![256, 256]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 12
  | .vmem => 15
  | .smem => 2
  | _ => 0

abbrev bufTy : (tb : Table) → Fin (tcTables nBuf tb) → BufTy
  | .hbm, ⟨0, _⟩ => ⟨S57344x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S256x256, .bf16⟩
  | .hbm, ⟨6, _⟩ => ⟨S32x1024, .f32⟩
  | .hbm, ⟨7, _⟩ => ⟨S32x1024, .f32⟩
  | .hbm, ⟨8, _⟩ => ⟨S32x2048, .f32⟩
  | .hbm, ⟨9, _⟩ => ⟨S32x1x2048, .f32⟩
  | .hbm, ⟨10, _⟩ => ⟨S32x1x1024, .f32⟩
  | .hbm, ⟨11, _⟩ => ⟨S57344x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x256, .bf16⟩
  | .local _ .vmem, ⟨11, _⟩ => ⟨S256x1024, .f32⟩
  | .local _ .vmem, ⟨12, _⟩ => ⟨S256x1024, .f32⟩
  | .local _ .vmem, ⟨13, _⟩ => ⟨S1024x2048, .bf16⟩
  | .local _ .vmem, ⟨14, _⟩ => ⟨S1024x1024, .bf16⟩
  | .local _ .smem, ⟨0, _⟩ => ⟨S224, .i32⟩
  | .local _ .smem, ⟨1, _⟩ => ⟨S1, .i32⟩
  | _, _ => ⟨S57344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![224], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S224 : Shape := ⟨1, ![224]⟩
abbrev S1 : Shape := ⟨1, ![1]⟩
abbrev S57344x1024 : Shape := ⟨2, ![57344, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S224x256x1024 : Shape := ⟨3, ![224, 256, 1024]⟩
abbrev S_ : Shape := ⟨0, ![]⟩
abbrev S224x1 : Shape := ⟨2, ![224, 1]⟩
abbrev S224x1024x2048 : Shape := ⟨3, ![224, 1024, 2048]⟩
abbrev S224x256x2048 : Shape := ⟨3, ![224, 256, 2048]⟩
abbrev S224x2048 : Shape := ⟨2, ![224, 2048]⟩
abbrev S224x1x2048 : Shape := ⟨3, ![224, 1, 2048]⟩
abbrev S224x1024x1024 : Shape := ⟨3, ![224, 1024, 1024]⟩
abbrev S224x1024 : Shape := ⟨2, ![224, 1024]⟩
abbrev S224x1x1024 : Shape := ⟨3, ![224, 1, 1024]⟩
abbrev S224x1x1 : Shape := ⟨3, ![224, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S224, .i32⟩
  | .hbm, ⟨1, _⟩ => ⟨S1, .i32⟩
  | .hbm, ⟨2, _⟩ => ⟨S57344x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S224x256x1024, .f32⟩
  | .hbm, ⟨8, _⟩ => ⟨S_, .i32⟩
  | .hbm, ⟨9, _⟩ => ⟨S224, .i32⟩
  | .hbm, ⟨10, _⟩ => ⟨S224, .i1⟩
  | .hbm, ⟨11, _⟩ => ⟨S_, .i32⟩
  | .hbm, ⟨12, _⟩ => ⟨S224, .i32⟩
  | .hbm, ⟨13, _⟩ => ⟨S224, .i32⟩
  | .hbm, ⟨14, _⟩ => ⟨S224, .i32⟩
  | .hbm, ⟨15, _⟩ => ⟨S224x1, .i32⟩
  | .hbm, ⟨16, _⟩ => ⟨S224x1024x2048, .f32⟩
  | .hbm, ⟨17, _⟩ => ⟨S224x256x2048, .f32⟩
  | .hbm, ⟨18, _⟩ => ⟨S_, .i32⟩
  | .hbm, ⟨19, _⟩ => ⟨S224, .i32⟩
  | .hbm, ⟨20, _⟩ => ⟨S224, .i1⟩
  | .hbm, ⟨21, _⟩ => ⟨S_, .i32⟩
  | .hbm, ⟨22, _⟩ => ⟨S224, .i32⟩
  | .hbm, ⟨23, _⟩ => ⟨S224, .i32⟩
  | .hbm, ⟨24, _⟩ => ⟨S224, .i32⟩
  | .hbm, ⟨25, _⟩ => ⟨S224x1, .i32⟩
  | .hbm, ⟨26, _⟩ => ⟨S224x2048, .f32⟩
  | .hbm, ⟨27, _⟩ => ⟨S224x1x2048, .f32⟩
  | .hbm, ⟨28, _⟩ => ⟨S224x256x2048, .f32⟩
  | .hbm, ⟨29, _⟩ => ⟨S224x256x2048, .f32⟩
  | .hbm, ⟨30, _⟩ => ⟨S224x256x1024, .f32⟩
  | .hbm, ⟨31, _⟩ => ⟨S_, .f32⟩
  | .hbm, ⟨32, _⟩ => ⟨S224x256x1024, .f32⟩
  | .hbm, ⟨33, _⟩ => ⟨S224x256x1024, .f32⟩
  | .hbm, ⟨34, _⟩ => ⟨S224x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S224x256x1024, .f32⟩
  | .hbm, ⟨39, _⟩ => ⟨S224x256x1024, .f32⟩
  | .hbm, ⟨40, _⟩ => ⟨S_, .f32⟩
  | .hbm, ⟨41, _⟩ => ⟨S224x256x1024, .f32⟩
  | .hbm, ⟨42, _⟩ => ⟨S224x256x1024, .f32⟩
  | .hbm, ⟨43, _⟩ => ⟨S_, .f32⟩
  | .hbm, ⟨44, _⟩ => ⟨S224x256x1024, .f32⟩
  | .hbm, ⟨45, _⟩ => ⟨S224x256x1024, .f32⟩
  | .hbm, ⟨46, _⟩ => ⟨S_, .f32⟩
  | .hbm, ⟨47, _⟩ => ⟨S224x256x1024, .f32⟩
  | .hbm, ⟨48, _⟩ => ⟨S224x256x1024, .f32⟩
  | .hbm, ⟨49, _⟩ => ⟨S224x256x1024, .f32⟩
  | .hbm, ⟨50, _⟩ => ⟨S224x256x1024, .f32⟩
  | .hbm, ⟨51, _⟩ => ⟨S_, .f32⟩
  | .hbm, ⟨52, _⟩ => ⟨S224x256x1024, .f32⟩
  | .hbm, ⟨53, _⟩ => ⟨S224x256x1024, .f32⟩
  | .hbm, ⟨54, _⟩ => ⟨S_, .f32⟩
  | .hbm, ⟨55, _⟩ => ⟨S224x256x1024, .f32⟩
  | .hbm, ⟨56, _⟩ => ⟨S224x256x1024, .f32⟩
  | .hbm, ⟨57, _⟩ => ⟨S224x256x1024, .f32⟩
  | .hbm, ⟨58, _⟩ => ⟨S224x256x1024, .f32⟩
  | .hbm, ⟨59, _⟩ => ⟨S_, .i32⟩
  | .hbm, ⟨60, _⟩ => ⟨S224, .i32⟩
  | .hbm, ⟨61, _⟩ => ⟨S224, .i1⟩
  | .hbm, ⟨62, _⟩ => ⟨S_, .i32⟩
  | .hbm, ⟨63, _⟩ => ⟨S224, .i32⟩
  | .hbm, ⟨64, _⟩ => ⟨S224, .i32⟩
  | .hbm, ⟨65, _⟩ => ⟨S224, .i32⟩
  | .hbm, ⟨66, _⟩ => ⟨S224x1, .i32⟩
  | .hbm, ⟨67, _⟩ => ⟨S224x1024x1024, .f32⟩
  | .hbm, ⟨68, _⟩ => ⟨S224x256x1024, .f32⟩
  | .hbm, ⟨69, _⟩ => ⟨S_, .i32⟩
  | .hbm, ⟨70, _⟩ => ⟨S224, .i32⟩
  | .hbm, ⟨71, _⟩ => ⟨S224, .i1⟩
  | .hbm, ⟨72, _⟩ => ⟨S_, .i32⟩
  | .hbm, ⟨73, _⟩ => ⟨S224, .i32⟩
  | .hbm, ⟨74, _⟩ => ⟨S224, .i32⟩
  | .hbm, ⟨75, _⟩ => ⟨S224, .i32⟩
  | .hbm, ⟨76, _⟩ => ⟨S224x1, .i32⟩
  | .hbm, ⟨77, _⟩ => ⟨S224x1024, .f32⟩
  | .hbm, ⟨78, _⟩ => ⟨S224x1x1024, .f32⟩
  | .hbm, ⟨79, _⟩ => ⟨S224x256x1024, .f32⟩
  | .hbm, ⟨80, _⟩ => ⟨S224x256x1024, .f32⟩
  | .hbm, ⟨81, _⟩ => ⟨S224, .i32⟩
  | .hbm, ⟨82, _⟩ => ⟨S_, .i32⟩
  | .hbm, ⟨83, _⟩ => ⟨S224, .i32⟩
  | .hbm, ⟨84, _⟩ => ⟨S224, .i1⟩
  | .hbm, ⟨85, _⟩ => ⟨S224x1x1, .i1⟩
  | .hbm, ⟨86, _⟩ => ⟨S_, .f32⟩
  | .hbm, ⟨87, _⟩ => ⟨S_, .f32⟩
  | .hbm, ⟨88, _⟩ => ⟨S224x256x1024, .i1⟩
  | .hbm, ⟨89, _⟩ => ⟨S224x256x1024, .f32⟩
  | .hbm, ⟨90, _⟩ => ⟨S224x256x1024, .f32⟩
  | .hbm, ⟨91, _⟩ => ⟨S57344x1024, .f32⟩
  | _, _ => ⟨S224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S32x256x1024 : Shape := ⟨3, ![32, 256, 1024]⟩
abbrev S4x1024x1024 : Shape := ⟨3, ![4, 1024, 1024]⟩
abbrev S6144 : Shape := ⟨1, ![6144]⟩
abbrev S4x6144 : Shape := ⟨2, ![4, 6144]⟩
abbrev S1024 : Shape := ⟨1, ![1024]⟩
abbrev S1024x3616 : Shape := ⟨2, ![1024, 3616]⟩
abbrev S1x6144 : Shape := ⟨2, ![1, 6144]⟩
abbrev S5x6144 : Shape := ⟨2, ![5, 6144]⟩
abbrev S5x6x1024 : Shape := ⟨3, ![5, 6, 1024]⟩
abbrev S_ : Shape := ⟨0, ![]⟩
abbrev S5x2x1024 : Shape := ⟨3, ![5, 2, 1024]⟩
abbrev S5x8x1024 : Shape := ⟨3, ![5, 8, 1024]⟩
abbrev S8192x1024 : Shape := ⟨2, ![8192, 1024]⟩
abbrev S4096x1024 : Shape := ⟨2, ![4096, 1024]⟩
abbrev S12288x1024 : Shape := ⟨2, ![12288, 1024]⟩
abbrev S1024x256 : Shape := ⟨2, ![1024, 256]⟩
abbrev S1024x512 : Shape := ⟨2, ![1024, 512]⟩
abbrev S1024x16 : Shape := ⟨2, ![1024, 16]⟩
abbrev S1024x1536 : Shape := ⟨2, ![1024, 1536]⟩
abbrev S1024x8 : Shape := ⟨2, ![1024, 8]⟩
abbrev S1024x96 : Shape := ⟨2, ![1024, 96]⟩
abbrev S1024x3712 : Shape := ⟨2, ![1024, 3712]⟩
abbrev S1x1024 : Shape := ⟨2, ![1, 1024]⟩
abbrev S12288x1536 : Shape := ⟨2, ![12288, 1536]⟩
abbrev S12288x128 : Shape := ⟨2, ![12288, 128]⟩
abbrev S256x1024 : Shape := ⟨2, ![256, 1024]⟩
abbrev S1x8x1024 : Shape := ⟨3, ![1, 8, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S1x1x1024 : Shape := ⟨3, ![1, 1, 1024]⟩
abbrev S256x3712 : Shape := ⟨2, ![256, 3712]⟩

abbrev nBuf : Space → Nat
  | .hbm => 33
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S4x1024x1024, .f32⟩
  | .hbm, ⟨2, _⟩ => ⟨S6144, .f32⟩
  | .hbm, ⟨3, _⟩ => ⟨S4x6144, .f32⟩
  | .hbm, ⟨4, _⟩ => ⟨S1024, .f32⟩
  | .hbm, ⟨5, _⟩ => ⟨S1024x3616, .f32⟩
  | .hbm, ⟨6, _⟩ => ⟨S1x6144, .f32⟩
  | .hbm, ⟨7, _⟩ => ⟨S5x6144, .f32⟩
  | .hbm, ⟨8, _⟩ => ⟨S5x6x1024, .f32⟩
  | .hbm, ⟨9, _⟩ => ⟨S_, .f32⟩
  | .hbm, ⟨10, _⟩ => ⟨S5x2x1024, .f32⟩
  | .hbm, ⟨11, _⟩ => ⟨S5x8x1024, .f32⟩
  | .hbm, ⟨12, _⟩ => ⟨S8192x1024, .f32⟩
  | .hbm, ⟨13, _⟩ => ⟨S4096x1024, .f32⟩
  | .hbm, ⟨14, _⟩ => ⟨S12288x1024, .f32⟩
  | .hbm, ⟨15, _⟩ => ⟨S1024x256, .f32⟩
  | .hbm, ⟨16, _⟩ => ⟨S1024x256, .f32⟩
  | .hbm, ⟨17, _⟩ => ⟨S1024x512, .f32⟩
  | .hbm, ⟨18, _⟩ => ⟨S1024x16, .f32⟩
  | .hbm, ⟨19, _⟩ => ⟨S1024x512, .f32⟩
  | .hbm, ⟨20, _⟩ => ⟨S1024x1536, .f32⟩
  | .hbm, ⟨21, _⟩ => ⟨S1024x8, .f32⟩
  | .hbm, ⟨22, _⟩ => ⟨S1024x8, .f32⟩
  | .hbm, ⟨23, _⟩ => ⟨S1024x512, .f32⟩
  | .hbm, ⟨24, _⟩ => ⟨S_, .f32⟩
  | .hbm, ⟨25, _⟩ => ⟨S1024x96, .f32⟩
  | .hbm, ⟨26, _⟩ => ⟨S1024x3712, .f32⟩
  | .hbm, ⟨27, _⟩ => ⟨S1024x3712, .bf16⟩
  | .hbm, ⟨28, _⟩ => ⟨S1x1024, .f32⟩
  | .hbm, ⟨29, _⟩ => ⟨S12288x1024, .f32⟩
  | .hbm, ⟨30, _⟩ => ⟨S12288x1024, .f32⟩
  | .hbm, ⟨31, _⟩ => ⟨S12288x1536, .f32⟩
  | .hbm, ⟨32, _⟩ => ⟨S12288x128, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3712, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1536, .f32⟩
  | .local _ .vmem, ⟨11, _⟩ => ⟨S256x1536, .f32⟩
  | .local _ .vmem, ⟨12, _⟩ => ⟨S256x128, .f32⟩
  | .local _ .vmem, ⟨13, _⟩ => ⟨S256x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32x256x1024 : Shape := ⟨3, ![32, 256, 1024]⟩
abbrev S4x1024x1024 : Shape := ⟨3, ![4, 1024, 1024]⟩
abbrev S6144 : Shape := ⟨1, ![6144]⟩
abbrev S4x6144 : Shape := ⟨2, ![4, 6144]⟩
abbrev S1024 : Shape := ⟨1, ![1024]⟩
abbrev S1024x3616 : Shape := ⟨2, ![1024, 3616]⟩
abbrev S4x1024 : Shape := ⟨2, ![4, 1024]⟩
abbrev S4x1x1024 : Shape := ⟨3, ![4, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S4x1024x1 : Shape := ⟨3, ![4, 1024, 1]⟩
abbrev S32x256x3616 : Shape := ⟨3, ![32, 256, 3616]⟩
abbrev S32x256x256 : Shape := ⟨3, ![32, 256, 256]⟩
abbrev S32x256x512 : Shape := ⟨3, ![32, 256, 512]⟩
abbrev S32x256x16 : Shape := ⟨3, ![32, 256, 16]⟩
abbrev S32x256x1536 : Shape := ⟨3, ![32, 256, 1536]⟩
abbrev S32x256x8 : Shape := ⟨3, ![32, 256, 8]⟩
abbrev S8192x256 : Shape := ⟨2, ![8192, 256]⟩
abbrev S8192x512 : Shape := ⟨2, ![8192, 512]⟩
abbrev S8192x16 : Shape := ⟨2, ![8192, 16]⟩
abbrev S8192x1536 : Shape := ⟨2, ![8192, 1536]⟩
abbrev S8192x8 : Shape := ⟨2, ![8192, 8]⟩
abbrev S4x1024x3616 : Shape := ⟨3, ![4, 1024, 3616]⟩
abbrev S4x1024x256 : Shape := ⟨3, ![4, 1024, 256]⟩
abbrev S4x1024x512 : Shape := ⟨3, ![4, 1024, 512]⟩
abbrev S4x1024x16 : Shape := ⟨3, ![4, 1024, 16]⟩
abbrev S4x1024x1536 : Shape := ⟨3, ![4, 1024, 1536]⟩
abbrev S4x1024x8 : Shape := ⟨3, ![4, 1024, 8]⟩
abbrev S4096x256 : Shape := ⟨2, ![4096, 256]⟩
abbrev S4096x512 : Shape := ⟨2, ![4096, 512]⟩
abbrev S4096x16 : Shape := ⟨2, ![4096, 16]⟩
abbrev S4096x1536 : Shape := ⟨2, ![4096, 1536]⟩
abbrev S4096x8 : Shape := ⟨2, ![4096, 8]⟩
abbrev S12288x256 : Shape := ⟨2, ![12288, 256]⟩
abbrev S12288x512 : Shape := ⟨2, ![12288, 512]⟩
abbrev S12288x16 : Shape := ⟨2, ![12288, 16]⟩
abbrev S12288x1536 : Shape := ⟨2, ![12288, 1536]⟩
abbrev S12288x8 : Shape := ⟨2, ![12288, 8]⟩
abbrev S12288x96 : Shape := ⟨2, ![12288, 96]⟩
abbrev S12288x1024 : Shape := ⟨2, ![12288, 1024]⟩
abbrev S12288x128 : Shape := ⟨2, ![12288, 128]⟩

abbrev nBuf : Space → Nat
  | .hbm => 124
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x1024x1024, .f32⟩
  | .hbm, ⟨2, _⟩ => ⟨S6144, .f32⟩
  | .hbm, ⟨3, _⟩ => ⟨S4x6144, .f32⟩
  | .hbm, ⟨4, _⟩ => ⟨S1024, .f32⟩
  | .hbm, ⟨5, _⟩ => ⟨S1024x3616, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S32x256x1024, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S32x256x1, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1x1024, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S4x1024x1024, .f32⟩
  | .hbm, ⟨50, _⟩ => ⟨S_, .f32⟩
  | .hbm, ⟨51, _⟩ => ⟨S4x1024, .f32⟩
  | .hbm, ⟨52, _⟩ => ⟨S4x1024x1, .f32⟩
  | .hbm, ⟨53, _⟩ => ⟨S_, .f32⟩
  | .hbm, ⟨54, _⟩ => ⟨S4x1024x1, .f32⟩
  | .hbm, ⟨55, _⟩ => ⟨S4x1024x1, .f32⟩
  | .hbm, ⟨56, _⟩ => ⟨S_, .f32⟩
  | .hbm, ⟨57, _⟩ => ⟨S4x1024x1, .f32⟩
  | .hbm, ⟨58, _⟩ => ⟨S4x1024x1, .f32⟩
  | .hbm, ⟨59, _⟩ => ⟨S4x1024x1, .f32⟩
  | .hbm, ⟨60, _⟩ => ⟨S4x1024x1024, .f32⟩
  | .hbm, ⟨61, _⟩ => ⟨S4x1024x1024, .f32⟩
  | .hbm, ⟨62, _⟩ => ⟨S1x1x1024, .f32⟩
  | .hbm, ⟨63, _⟩ => ⟨S4x1024x1024, .f32⟩
  | .hbm, ⟨64, _⟩ => ⟨S4x1024x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x1024x1024, .f32⟩
  | .hbm, ⟨69, _⟩ => ⟨S4x1024x1024, .f32⟩
  | .hbm, ⟨70, _⟩ => ⟨S4x1024x1024, .f32⟩
  | .hbm, ⟨71, _⟩ => ⟨S4x1024x1024, .f32⟩
  | .hbm, ⟨72, _⟩ => ⟨S32x256x3616, .f32⟩
  | .hbm, ⟨73, _⟩ => ⟨S32x256x256, .f32⟩
  | .hbm, ⟨74, _⟩ => ⟨S32x256x256, .f32⟩
  | .hbm, ⟨75, _⟩ => ⟨S32x256x512, .f32⟩
  | .hbm, ⟨76, _⟩ => ⟨S32x256x16, .f32⟩
  | .hbm, ⟨77, _⟩ => ⟨S32x256x512, .f32⟩
  | .hbm, ⟨78, _⟩ => ⟨S32x256x1536, .f32⟩
  | .hbm, ⟨79, _⟩ => ⟨S32x256x8, .f32⟩
  | .hbm, ⟨80, _⟩ => ⟨S32x256x8, .f32⟩
  | .hbm, ⟨81, _⟩ => ⟨S32x256x512, .f32⟩
  | .hbm, ⟨82, _⟩ => ⟨S8192x256, .f32⟩
  | .hbm, ⟨83, _⟩ => ⟨S8192x256, .f32⟩
  | .hbm, ⟨84, _⟩ => ⟨S8192x512, .f32⟩
  | .hbm, ⟨85, _⟩ => ⟨S8192x16, .f32⟩
  | .hbm, ⟨86, _⟩ => ⟨S8192x512, .f32⟩
  | .hbm, ⟨87, _⟩ => ⟨S8192x1536, .f32⟩
  | .hbm, ⟨88, _⟩ => ⟨S8192x8, .f32⟩
  | .hbm, ⟨89, _⟩ => ⟨S8192x8, .f32⟩
  | .hbm, ⟨90, _⟩ => ⟨S8192x512, .f32⟩
  | .hbm, ⟨91, _⟩ => ⟨S4x1024x3616, .f32⟩
  | .hbm, ⟨92, _⟩ => ⟨S4x1024x256, .f32⟩
  | .hbm, ⟨93, _⟩ => ⟨S4x1024x256, .f32⟩
  | .hbm, ⟨94, _⟩ => ⟨S4x1024x512, .f32⟩
  | .hbm, ⟨95, _⟩ => ⟨S4x1024x16, .f32⟩
  | .hbm, ⟨96, _⟩ => ⟨S4x1024x512, .f32⟩
  | .hbm, ⟨97, _⟩ => ⟨S4x1024x1536, .f32⟩
  | .hbm, ⟨98, _⟩ => ⟨S4x1024x8, .f32⟩
  | .hbm, ⟨99, _⟩ => ⟨S4x1024x8, .f32⟩
  | .hbm, ⟨100, _⟩ => ⟨S4x1024x512, .f32⟩
  | .hbm, ⟨101, _⟩ => ⟨S4096x256, .f32⟩
  | .hbm, ⟨102, _⟩ => ⟨S4096x256, .f32⟩
  | .hbm, ⟨103, _⟩ => ⟨S4096x512, .f32⟩
  | .hbm, ⟨104, _⟩ => ⟨S4096x16, .f32⟩
  | .hbm, ⟨105, _⟩ => ⟨S4096x512, .f32⟩
  | .hbm, ⟨106, _⟩ => ⟨S4096x1536, .f32⟩
  | .hbm, ⟨107, _⟩ => ⟨S4096x8, .f32⟩
  | .hbm, ⟨108, _⟩ => ⟨S4096x8, .f32⟩
  | .hbm, ⟨109, _⟩ => ⟨S4096x512, .f32⟩
  | .hbm, ⟨110, _⟩ => ⟨S12288x256, .f32⟩
  | .hbm, ⟨111, _⟩ => ⟨S12288x256, .f32⟩
  | .hbm, ⟨112, _⟩ => ⟨S12288x512, .f32⟩
  | .hbm, ⟨113, _⟩ => ⟨S12288x16, .f32⟩
  | .hbm, ⟨114, _⟩ => ⟨S12288x512, .f32⟩
  | .hbm, ⟨115, _⟩ => ⟨S12288x1536, .f32⟩
  | .hbm, ⟨116, _⟩ => ⟨S12288x8, .f32⟩
  | .hbm, ⟨117, _⟩ => ⟨S12288x8, .f32⟩
  | .hbm, ⟨118, _⟩ => ⟨S12288x512, .f32⟩
  | .hbm, ⟨119, _⟩ => ⟨S_, .f32⟩
  | .hbm, ⟨120, _⟩ => ⟨S12288x96, .f32⟩
  | .hbm, ⟨121, _⟩ => ⟨S12288x1024, .f32⟩
  | .hbm, ⟨122, _⟩ => ⟨S12288x1024, .f32⟩
  | .hbm, ⟨123, _⟩ => ⟨S12288x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_cst_7 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩

abbrev nD : Nat := 1
abbrev τ : Topo := Topo.v7x

variable {F : FTy → Type} [FloatOps F]
-- ==== Proof.ExpVal.lean ====
/- The experts' kernel: what its body computes. -/
module

public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The two prefetched tables as the body is handed them. -/
abbrev tbM0 : Memref sig .tc .smem S224 .i32 := Memref.whole main_arg0
abbrev htbM0 : tbM0.IsWhole := Memref.isWhole_whole _
abbrev tbM1 : Memref sig .tc .smem S1 .i32 := Memref.whole main_arg1
abbrev htbM1 : tbM1.IsWhole := Memref.isWhole_whole _

/-- A table's contents on a core, and the table held there at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- A word of a table. -/
abbrev word (c : Dev nD) (xt0 : TbBuf (F := F) c tbM0) (off : Fin 1 → ℕ) (inb : ∀ a, off a + S1.size a ≤ S224.size a) : BitVec 32 :=
  View.readAt (Elt F) tbM0.view (Rect.unit (s := S224) off S1.size inb).toLoadRect xt0 (Shape.Idx.first (numel1_S1.symm ▸ Nat.one_pos))

/-- The weights are taken anew at point `i`: it is the first, or its expert is not the one before's. -/
def fresh (c : Dev nD) (i : grid0.Coords) (xt0 : TbBuf (F := F) c tbM0) : BitVec 1 :=
  Scalar.cmpi .ne (Scalar.extui (Scalar.ori (Scalar.cmpi .eq (BitVec.ofNat 32 (i 0).val) 0#32)
    (Scalar.cmpi .ne (word c xt0 (k0_off1 i) (k0_off1_inb i)) (word c xt0 (k0_off2 i) (k0_off2_inb i))))) 0#32

/-- The number of blocks in use. -/
def used (c : Dev nD) (xt1 : TbBuf (F := F) c tbM1) : BitVec 32 :=
  View.readAt (Elt F) tbM1.view (Rect.unit (s := S1) ![0] S1.size inb_S1_S1_0).toLoadRect xt1 (Shape.Idx.first (numel1_S1.symm ▸ Nat.one_pos))

/-- Columns `256 j …` of an expert's first weights. -/
def cols (w : Vec F S1x1024x2048 .f32) (j : Fin 8) : Vec F S1024x256 .f32 := fun y =>
  w (ix3 0 (y 0) ⟨256 * j.val + (y 1).val, by have : (y 1).val < 256 := (y 1).isLt; omega⟩)

/-- Those columns, the even ones first. -/
def dein (w : Vec F S1x1024x2048 .f32) (p : Vec F S256x256 .bf16) (j : Fin 8) : FVec F S1024x256 .bf16 :=
  truncf .bf16 (matmul dot_S1024x256_S256x256_S1024x256_1_0_0_1_n_n none (truncf .bf16 (cols w j : FVec F S1024x256 .f32) bitsLt_bf16_f32) p (constant S1024x256 .f32 0x00000000#32)) bitsLt_bf16_f32

/-- The first weights as the kernel keeps them: the even columns, then the odd ones. -/
def guw (w : Vec F S1x1024x2048 .f32) (p : Vec F S256x256 .bf16) : Vec F S1024x2048 .bf16 := fun z =>
  dein w p ⟨(z 1).val % 1024 / 128, by omega⟩ (ix2 (z 0) ⟨(z 1).val / 1024 * 128 + (z 1).val % 128, by have : (z 1).val < 2048 := (z 1).isLt; omega⟩)

/-- The second weights as the kernel keeps them. -/
def dnw (w : Vec F S1x1024x1024 .f32) : Vec F S1024x1024 .bf16 :=
  truncf .bf16 (shapeCast S1024x1024 w shapeCasts_S1x1024x1024_S1024x1024) bitsLt_bf16_f32

/-- The first product with its bias. -/
def upv (x : Vec F S256x1024 .f32) (bg : Vec F S1x1x2048 .f32) (g : Vec F S1024x2048 .bf16) : FVec F S256x2048 .f32 :=
  addf (matmul dot_S256x1024_S1024x2048_S256x2048_1_0_0_1_n_n none (truncf .bf16 (x : FVec F S256x1024 .f32) bitsLt_bf16_f32) g (constant S256x2048 .f32 0x00000000#32))
    (broadcastTo S256x2048 (shapeCast S1x2048 bg shapeCasts_S1x1x2048_S1x2048) broadcasts_S1x2048_S256x2048)

/-- The gates, from above. -/
def gatev (u : FVec F S256x2048 .f32) : FVec F S256x1024 .f32 :=
  minimumf (extractStridedSlice S256x1024 ![0, 0] u slices_S256x2048_o0_0_S256x1024) (broadcast S256x1024 (Scalar.ofBits .f32 0x40E00000#32))

/-- The activations. -/
def actv (u : FVec F S256x2048 .f32) : FVec F S256x1024 .f32 :=
  mulf (addf (minimumf (broadcast S256x1024 (Scalar.ofBits .f32 0x40E00000#32))
      (maximumf (broadcast S256x1024 (Scalar.ofBits .f32 0xC0E00000#32)) (extractStridedSlice S256x1024 ![0, 1024] u slices_S256x2048_o0_1024_S256x1024)))
      (broadcast S256x1024 (Scalar.ofBits .f32 0x3F800000#32)))
    (mulf (gatev u) (divf (broadcast S256x1024 (Scalar.ofBits .f32 0x3F800000#32))
      (addf (broadcast S256x1024 (Scalar.ofBits .f32 0x3F800000#32))
        (exp (subf (broadcast S256x1024 (Scalar.ofBits .f32 0x00000000#32)) (mulf (broadcast S256x1024 (Scalar.ofBits .f32 0x3FD9DB23#32)) (gatev u)))))))

/-- A block of the result. -/
def outv (x : Vec F S256x1024 .f32) (bg : Vec F S1x1x2048 .f32) (bd : Vec F S1x1x1024 .f32) (g : Vec F S1024x2048 .bf16) (d : Vec F S1024x1024 .bf16) : FVec F S256x1024 .f32 :=
  addf (matmul dot_S256x1024_S1024x1024_S256x1024_1_0_0_1_n_n none (truncf .bf16 (actv (upv x bg g)) bitsLt_bf16_f32) d (constant S256x1024 .f32 0x00000000#32))
    (broadcastTo S256x1024 (shapeCast S1x1024 bd shapeCasts_S1x1x1024_S1x1024) broadcasts_S1x1024_S256x1024)

/-- A block past those in use. -/
def zerov : FVec F S256x1024 .f32 := broadcast S256x1024 (Scalar.ofBits .f32 0x00000000#32)

/-- The columns loaded are those. -/
theorem cols_eq (arg4 : Memref sig .tc .vmem S1x1024x2048 .f32) (harg4 : arg4.IsWhole) (x1 : Vec F S1x1024x2048 .f32) (j : Fin 8) (off : Fin 3 → ℕ)
    (h : off = ![0, 0, 256 * j.val]) (inb : ∀ a, off a + S1x1024x256.size a ≤ S1x1024x2048.size a) :
    (shapeCast S1024x256 (View.readAt (Elt F) arg4.view (Rect.unit (s := S1x1024x2048) off S1x1024x256.size inb).toLoadRect (harg4.unread x1)) shapeCasts_S1x1024x256_S1024x256 : Vec F S1024x256 .f32) = cols x1 j := by
  subst h
  have e : (View.readAt (Elt F) arg4.view (Rect.unit (s := S1x1024x2048) ![0, 0, 256 * j.val] S1x1024x256.size inb).toLoadRect (harg4.unread x1) : Vec F S1x1024x256 .f32)
      = fun z => x1 (ix3 (z 0) (z 1) ⟨256 * j.val + (z 2).val, by have : (z 2).val < 256 := (z 2).isLt; omega⟩) := by
    funext z
    refine (congrFun (harg4.read_unread x1) _).trans (congrArg x1 (funext fun k => Fin.ext ?_))
    match k with
    | ⟨0, _⟩ => show 0 + 1 * (z 0).val = (z 0).val; omega
    | ⟨1, _⟩ => show 0 + 1 * (z 1).val = (z 1).val; omega
    | ⟨2, _⟩ => show 256 * j.val + 1 * (z 2).val = 256 * j.val + (z 2).val; omega
  funext y
  rw [eq_ix2 y]
  refine (congrArg (fun v : Vec F S1x1024x256 .f32 => (shapeCast S1024x256 v shapeCasts_S1x1024x256_S1024x256 : Vec F S1024x256 .f32) (ix2 (y 0) (y 1))) e).trans ?_
  pointwise
  rfl

/-- A stored piece is that part of the kept weights. -/
theorem piece_at (w : Vec F S1x1024x2048 .f32) (p : Vec F S256x256 .bf16) (j : Fin 8) (h : Fin 2) (off o : Fin 2 → ℕ) (ho : off = ![0, 1024 * h.val + 128 * j.val])
    (ho' : o = ![0, 128 * h.val]) (inb : ∀ a, off a + S1024x128.size a ≤ S1024x2048.size a)
    (hs : Shape.Slices S1024x256 o S1024x128) (y : S1024x128.Idx) :
    (shapeCast S1024x128 (extractStridedSlice S1024x128 o (dein w p j) hs : FVec F S1024x128 .bf16) shapeCasts_S1024x128_S1024x128 : Vec F S1024x128 .bf16) y
      = guw w p ((Rect.unit (s := S1024x2048) off S1024x128.size inb).emb y) := by
  subst ho ho'
  obtain ⟨a, b, rfl⟩ : ∃ (a : Fin 1024) (b : Fin 128), y = ix2 a b := ⟨y 0, y 1, eq_ix2 y⟩
  have e0 : (((Rect.unit (s := S1024x2048) ![0, 1024 * h.val + 128 * j.val] S1024x128.size inb).emb (ix2 a b)) 0).val = a.val := by
    show 0 + 1 * a.val = a.val; omega
  have e1 : (((Rect.unit (s := S1024x2048) ![0, 1024 * h.val + 128 * j.val] S1024x128.size inb).emb (ix2 a b)) 1).val = 1024 * h.val + 128 * j.val + b.val := by
    show 1024 * h.val + 128 * j.val + 1 * b.val = _; omega
  have hh := h.isLt; have hj := j.isLt; have hb := b.isLt
  rw [shapeCast_self]
  unfold guw
  have ej : (⟨(((Rect.unit (s := S1024x2048) ![0, 1024 * h.val + 128 * j.val] S1024x128.size inb).emb (ix2 a b)) 1).val % 1024 / 128, by omega⟩ : Fin 8) = j :=
    Fin.ext (by show (((Rect.unit (s := S1024x2048) ![0, 1024 * h.val + 128 * j.val] S1024x128.size inb).emb (ix2 a b)) 1).val % 1024 / 128 = j.val; rw [e1]; omega)
  rw [ej]
  unfold extractStridedSlice
  refine congrArg (dein w p j) (funext fun k => Fin.ext ?_)
  match k with
  | ⟨0, _⟩ => show 0 + a.val = (((Rect.unit (s := S1024x2048) ![0, 1024 * h.val + 128 * j.val] S1024x128.size inb).emb (ix2 a b)) 0).val; rw [e0]; omega
  | ⟨1, _⟩ =>
    show 128 * h.val + b.val = (((Rect.unit (s := S1024x2048) ![0, 1024 * h.val + 128 * j.val] S1024x128.size inb).emb (ix2 a b)) 1).val / 1024 * 128
      + (((Rect.unit (s := S1024x2048) ![0, 1024 * h.val + 128 * j.val] S1024x128.size inb).emb (ix2 a b)) 1).val % 128
    rw [e1]; omega

/-- A piece as the body computes it is that part of the kept weights. -/
theorem piece_raw (arg4 : Memref sig .tc .vmem S1x1024x2048 .f32) (harg4 : arg4.IsWhole) (arg8 : Memref sig .tc .vmem S256x256 .bf16) (harg8 : arg8.IsWhole)
    (x1 : Vec F S1x1024x2048 .f32) (x5 : Vec F S256x256 .bf16) (j : Fin 8) (h : Fin 2) (off4 : Fin 3 → ℕ) (off o : Fin 2 → ℕ) (h4 : off4 = ![0, 0, 256 * j.val])
    (ho : off = ![0, 1024 * h.val + 128 * j.val]) (ho' : o = ![0, 128 * h.val]) (inb4 : ∀ a, off4 a + S1x1024x256.size a ≤ S1x1024x2048.size a)
    (inb8 : ∀ a, (![0, 0] : Fin 2 → ℕ) a + S256x256.size a ≤ S256x256.size a)
    (inb : ∀ a, off a + S1024x128.size a ≤ S1024x2048.size a) (hs : Shape.Slices S1024x256 o S1024x128) (y : S1024x128.Idx) :
    (shapeCast S1024x128 (extractStridedSlice S1024x128 o (truncf .bf16 (matmul dot_S1024x256_S256x256_S1024x256_1_0_0_1_n_n none
        (truncf .bf16 (shapeCast S1024x256 (View.readAt (Elt F) arg4.view (Rect.unit (s := S1x1024x2048) off4 S1x1024x256.size inb4).toLoadRect (harg4.unread x1)) shapeCasts_S1x1024x256_S1024x256 : FVec F S1024x256 .f32) bitsLt_bf16_f32)
        (View.readAt (Elt F) arg8.view (Rect.unit (s := S256x256) ![0, 0] S256x256.size inb8).toLoadRect (harg8.unread x5) : FVec F S256x256 .bf16)
        (constant S1024x256 .f32 0x00000000#32)) bitsLt_bf16_f32) hs : FVec F S1024x128 .bf16) shapeCasts_S1024x128_S1024x128 : Vec F S1024x128 .bf16) y
      = guw x1 x5 ((Rect.unit (s := S1024x2048) off S1024x128.size inb).emb y) := by
  have e8 : (View.readAt (Elt F) arg8.view (Rect.unit (s := S256x256) ![0, 0] S256x256.size inb8).toLoadRect (harg8.unread x5) : FVec F S256x256 .bf16) = x5 :=
    (View.readAt_full arg8.view _ _).trans (harg8.read_unread x5)
  rw [cols_eq arg4 harg4 x1 j off4 h4 inb4, e8]
  exact piece_at x1 x5 j h off o ho ho' inb hs y

/-- Past the blocks in use is not among them. -/
theorem cond3_iff (i : grid0.Coords) (v : BitVec 32) : k0_cond3 i v = 1#1 ↔ ¬ k0_cond2 i v = 1#1 := by
  simp only [k0_cond3, k0_cond2, Scalar.cmpi, IntOp.cmpi]
  rcases h : BitVec.slt (BitVec.ofNat 32 (i 0).val) v <;> simp [h, BitVec.sle_eq_not_slt, Scalar.extui]

end Cert.KernelIdeal.Hand

end
-- ==== Proof.ExpRun.lean ====
/- The experts' kernel: its body run at a grid point. -/
module

public import proofs.«01_k».proof.Proof.ExpVal
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import Idealize.ShloMosaic.Lib.Pipeline.ReadBack

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem body_run (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x256 .bf16) (harg8 : arg8.IsWhole) (arg9 : Memref sig .tc .vmem S256x1024 .f32) (harg9 : arg9.IsWhole) (arg10 : Memref sig .tc .vmem S1024x2048 .bf16) (harg10 : arg10.IsWhole) (arg11 : Memref sig .tc .vmem S1024x1024 .bf16) (harg11 : arg11.IsWhole)
    (x0 : Vec F S256x1024 .f32) (x1 : Vec F S1x1024x2048 .f32) (x2 : Vec F S1x1x2048 .f32) (x3 : Vec F S1x1024x1024 .f32) (x4 : Vec F S1x1x1024 .f32) (x5 : Vec F S256x256 .bf16) (s0 : Vec F S1024x2048 .bf16) (s1 : Vec F S1024x1024 .bf16) (xt0 : TbBuf (F := F) c tbM0) (xt1 : TbBuf (F := F) c tbM1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s0 ∗ owns (c : Thread nD τ) arg11 fullShare s1 ∗ tbPt c tbM0 xt0 ∗ tbPt c tbM1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (if k0_cond2 i (used c xt1) = 1#1 then outv x0 x2 x4 (if fresh c i xt0 = 1#1 then guw x1 x5 else s0) (if fresh c i xt0 = 1#1 then dnw x3 else s1) else zerov)
                ∗ owns (c : Thread nD τ) arg10 fullShare (if fresh c i xt0 = 1#1 then guw x1 x5 else s0) ∗ owns (c : Thread nD τ) arg11 fullShare (if fresh c i xt0 = 1#1 then dnw x3 else s1) ∗ tbPt c tbM0 xt0 ∗ tbPt c tbM1 xt1) -∗ K ⟨⟩))
          ⊢ wp frame (wpE (defs₀ (F := F)) Variants.none c none) E (cc0_moe_experts i tbM0 htbM0 tbM1 htbM1 arg3 harg3 arg4 harg4 arg5 harg5 arg6 harg6 arg7 harg7 arg8 harg8 arg9 harg9 arg10 harg10 arg11 harg11) K := by
  intro E K
  sl_unfold [cc0_moe_experts]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hs0; obtain rfl := harg11.eq_unread hs1
  sl_exec
  have k0 : body_run.sl.v21_1 c i arg4 harg4 arg8 harg8 arg10 harg10 x1 x5 s0 xt0 = if fresh c i xt0 = 1#1 then guw x1 x5 else s0 := by
    unfold body_run.sl.v21_1
    refine (View.readAt_full arg10.view _ _).trans ?_
    by_cases hf : fresh c i xt0 = 1#1
    · rw [dif_pos (show body_run.sl.v10 c i xt0 = 1#1 from hf), if_pos hf]
      funext y
      refine View.read_writes_apply_of_pieces _ _ _ _ ?_ y ?_
      · intro p hp x
        simp only [List.mem_cons, List.not_mem_nil, or_false] at hp
        rcases hp with rfl | rfl | rfl | rfl | rfl | rfl | rfl | rfl | rfl | rfl | rfl | rfl | rfl | rfl | rfl | rfl
        · exact piece_raw arg4 harg4 arg8 harg8 x1 x5 7 1 ![0, 0, 1792] ![0, 1920] ![0, 128] rfl rfl rfl inb_S1x1024x2048_S1x1024x256_0_0_1792 inb_S256x256_S256x256_0_0 inb_S1024x2048_S1024x128_0_1920 slices_S1024x256_o0_128_S1024x128 x
        · exact piece_raw arg4 harg4 arg8 harg8 x1 x5 7 0 ![0, 0, 1792] ![0, 896] ![0, 0] rfl rfl rfl inb_S1x1024x2048_S1x1024x256_0_0_1792 inb_S256x256_S256x256_0_0 inb_S1024x2048_S1024x128_0_896 slices_S1024x256_o0_0_S1024x128 x
        · exact piece_raw arg4 harg4 arg8 harg8 x1 x5 6 1 ![0, 0, 1536] ![0, 1792] ![0, 128] rfl rfl rfl inb_S1x1024x2048_S1x1024x256_0_0_1536 inb_S256x256_S256x256_0_0 inb_S1024x2048_S1024x128_0_1792 slices_S1024x256_o0_128_S1024x128 x
        · exact piece_raw arg4 harg4 arg8 harg8 x1 x5 6 0 ![0, 0, 1536] ![0, 768] ![0, 0] rfl rfl rfl inb_S1x1024x2048_S1x1024x256_0_0_1536 inb_S256x256_S256x256_0_0 inb_S1024x2048_S1024x128_0_768 slices_S1024x256_o0_0_S1024x128 x
        · exact piece_raw arg4 harg4 arg8 harg8 x1 x5 5 1 ![0, 0, 1280] ![0, 1664] ![0, 128] rfl rfl rfl inb_S1x1024x2048_S1x1024x256_0_0_1280 inb_S256x256_S256x256_0_0 inb_S1024x2048_S1024x128_0_1664 slices_S1024x256_o0_128_S1024x128 x
        · exact piece_raw arg4 harg4 arg8 harg8 x1 x5 5 0 ![0, 0, 1280] ![0, 640] ![0, 0] rfl rfl rfl inb_S1x1024x2048_S1x1024x256_0_0_1280 inb_S256x256_S256x256_0_0 inb_S1024x2048_S1024x128_0_640 slices_S1024x256_o0_0_S1024x128 x
        · exact piece_raw arg4 harg4 arg8 harg8 x1 x5 4 1 ![0, 0, 1024] ![0, 1536] ![0, 128] rfl rfl rfl inb_S1x1024x2048_S1x1024x256_0_0_1024 inb_S256x256_S256x256_0_0 inb_S1024x2048_S1024x128_0_1536 slices_S1024x256_o0_128_S1024x128 x
        · exact piece_raw arg4 harg4 arg8 harg8 x1 x5 4 0 ![0, 0, 1024] ![0, 512] ![0, 0] rfl rfl rfl inb_S1x1024x2048_S1x1024x256_0_0_1024 inb_S256x256_S256x256_0_0 inb_S1024x2048_S1024x128_0_512 slices_S1024x256_o0_0_S1024x128 x
        · exact piece_raw arg4 harg4 arg8 harg8 x1 x5 3 1 ![0, 0, 768] ![0, 1408] ![0, 128] rfl rfl rfl inb_S1x1024x2048_S1x1024x256_0_0_768 inb_S256x256_S256x256_0_0 inb_S1024x2048_S1024x128_0_1408 slices_S1024x256_o0_128_S1024x128 x
        · exact piece_raw arg4 harg4 arg8 harg8 x1 x5 3 0 ![0, 0, 768] ![0, 384] ![0, 0] rfl rfl rfl inb_S1x1024x2048_S1x1024x256_0_0_768 inb_S256x256_S256x256_0_0 inb_S1024x2048_S1024x128_0_384 slices_S1024x256_o0_0_S1024x128 x
        · exact piece_raw arg4 harg4 arg8 harg8 x1 x5 2 1 ![0, 0, 512] ![0, 1280] ![0, 128] rfl rfl rfl inb_S1x1024x2048_S1x1024x256_0_0_512 inb_S256x256_S256x256_0_0 inb_S1024x2048_S1024x128_0_1280 slices_S1024x256_o0_128_S1024x128 x
        · exact piece_raw arg4 harg4 arg8 harg8 x1 x5 2 0 ![0, 0, 512] ![0, 256] ![0, 0] rfl rfl rfl inb_S1x1024x2048_S1x1024x256_0_0_512 inb_S256x256_S256x256_0_0 inb_S1024x2048_S1024x128_0_256 slices_S1024x256_o0_0_S1024x128 x
        · exact piece_raw arg4 harg4 arg8 harg8 x1 x5 1 1 ![0, 0, 256] ![0, 1152] ![0, 128] rfl rfl rfl inb_S1x1024x2048_S1x1024x256_0_0_256 inb_S256x256_S256x256_0_0 inb_S1024x2048_S1024x128_0_1152 slices_S1024x256_o0_128_S1024x128 x
        · exact piece_raw arg4 harg4 arg8 harg8 x1 x5 1 0 ![0, 0, 256] ![0, 128] ![0, 0] rfl rfl rfl inb_S1x1024x2048_S1x1024x256_0_0_256 inb_S256x256_S256x256_0_0 inb_S1024x2048_S1024x128_0_128 slices_S1024x256_o0_0_S1024x128 x
        · exact piece_raw arg4 harg4 arg8 harg8 x1 x5 0 1 ![0, 0, 0] ![0, 1024] ![0, 128] rfl rfl rfl inb_S1x1024x2048_S1x1024x256_0_0_0 inb_S256x256_S256x256_0_0 inb_S1024x2048_S1024x128_0_1024 slices_S1024x256_o0_128_S1024x128 x
        · exact piece_raw arg4 harg4 arg8 harg8 x1 x5 0 0 ![0, 0, 0] ![0, 0] ![0, 0] rfl rfl rfl inb_S1x1024x2048_S1x1024x256_0_0_0 inb_S256x256_S256x256_0_0 inb_S1024x2048_S1024x128_0_0 slices_S1024x256_o0_0_S1024x128 x
      · have hy : (y 1).val < 2048 := (y 1).isLt
        have hy0 : (y 0).val < 1024 := (y 0).isLt
        rcases (by omega : (1920 ≤ (y 1).val ∧ (y 1).val < 2048) ∨ (896 ≤ (y 1).val ∧ (y 1).val < 1024) ∨ (1792 ≤ (y 1).val ∧ (y 1).val < 1920) ∨ (768 ≤ (y 1).val ∧ (y 1).val < 896) ∨ (1664 ≤ (y 1).val ∧ (y 1).val < 1792) ∨ (640 ≤ (y 1).val ∧ (y 1).val < 768) ∨ (1536 ≤ (y 1).val ∧ (y 1).val < 1664) ∨ (512 ≤ (y 1).val ∧ (y 1).val < 640) ∨ (1408 ≤ (y 1).val ∧ (y 1).val < 1536) ∨ (384 ≤ (y 1).val ∧ (y 1).val < 512) ∨ (1280 ≤ (y 1).val ∧ (y 1).val < 1408) ∨ (256 ≤ (y 1).val ∧ (y 1).val < 384) ∨ (1152 ≤ (y 1).val ∧ (y 1).val < 1280) ∨ (128 ≤ (y 1).val ∧ (y 1).val < 256) ∨ (1024 ≤ (y 1).val ∧ (y 1).val < 1152) ∨ (0 ≤ (y 1).val ∧ (y 1).val < 128)) with hq | hq | hq | hq | hq | hq | hq | hq | hq | hq | hq | hq | hq | hq | hq | hq
        · exact ⟨_, List.getElem_mem (n := 0) (by simp), (Rect.mem_set_unit (s := S1024x2048) (inb := inb_S1024x2048_S1024x128_0_1920)).mpr fun a => match a with | ⟨0, _⟩ => (by show 0 ≤ (y 0).val ∧ (y 0).val < 0 + 1024; omega) | ⟨1, _⟩ => (by show 1920 ≤ (y 1).val ∧ (y 1).val < 1920 + 128; omega)⟩
        · exact ⟨_, List.getElem_mem (n := 1) (by simp), (Rect.mem_set_unit (s := S1024x2048) (inb := inb_S1024x2048_S1024x128_0_896)).mpr fun a => match a with | ⟨0, _⟩ => (by show 0 ≤ (y 0).val ∧ (y 0).val < 0 + 1024; omega) | ⟨1, _⟩ => (by show 896 ≤ (y 1).val ∧ (y 1).val < 896 + 128; omega)⟩
        · exact ⟨_, List.getElem_mem (n := 2) (by simp), (Rect.mem_set_unit (s := S1024x2048) (inb := inb_S1024x2048_S1024x128_0_1792)).mpr fun a => match a with | ⟨0, _⟩ => (by show 0 ≤ (y 0).val ∧ (y 0).val < 0 + 1024; omega) | ⟨1, _⟩ => (by show 1792 ≤ (y 1).val ∧ (y 1).val < 1792 + 128; omega)⟩
        · exact ⟨_, List.getElem_mem (n := 3) (by simp), (Rect.mem_set_unit (s := S1024x2048) (inb := inb_S1024x2048_S1024x128_0_768)).mpr fun a => match a with | ⟨0, _⟩ => (by show 0 ≤ (y 0).val ∧ (y 0).val < 0 + 1024; omega) | ⟨1, _⟩ => (by show 768 ≤ (y 1).val ∧ (y 1).val < 768 + 128; omega)⟩
        · exact ⟨_, List.getElem_mem (n := 4) (by simp), (Rect.mem_set_unit (s := S1024x2048) (inb := inb_S1024x2048_S1024x128_0_1664)).mpr fun a => match a with | ⟨0, _⟩ => (by show 0 ≤ (y 0).val ∧ (y 0).val < 0 + 1024; omega) | ⟨1, _⟩ => (by show 1664 ≤ (y 1).val ∧ (y 1).val < 1664 + 128; omega)⟩
        · exact ⟨_, List.getElem_mem (n := 5) (by simp), (Rect.mem_set_unit (s := S1024x2048) (inb := inb_S1024x2048_S1024x128_0_640)).mpr fun a => match a with | ⟨0, _⟩ => (by show 0 ≤ (y 0).val ∧ (y 0).val < 0 + 1024; omega) | ⟨1, _⟩ => (by show 640 ≤ (y 1).val ∧ (y 1).val < 640 + 128; omega)⟩
        · exact ⟨_, List.getElem_mem (n := 6) (by simp), (Rect.mem_set_unit (s := S1024x2048) (inb := inb_S1024x2048_S1024x128_0_1536)).mpr fun a => match a with | ⟨0, _⟩ => (by show 0 ≤ (y 0).val ∧ (y 0).val < 0 + 1024; omega) | ⟨1, _⟩ => (by show 1536 ≤ (y 1).val ∧ (y 1).val < 1536 + 128; omega)⟩
        · exact ⟨_, List.getElem_mem (n := 7) (by simp), (Rect.mem_set_unit (s := S1024x2048) (inb := inb_S1024x2048_S1024x128_0_512)).mpr fun a => match a with | ⟨0, _⟩ => (by show 0 ≤ (y 0).val ∧ (y 0).val < 0 + 1024; omega) | ⟨1, _⟩ => (by show 512 ≤ (y 1).val ∧ (y 1).val < 512 + 128; omega)⟩
        · exact ⟨_, List.getElem_mem (n := 8) (by simp), (Rect.mem_set_unit (s := S1024x2048) (inb := inb_S1024x2048_S1024x128_0_1408)).mpr fun a => match a with | ⟨0, _⟩ => (by show 0 ≤ (y 0).val ∧ (y 0).val < 0 + 1024; omega) | ⟨1, _⟩ => (by show 1408 ≤ (y 1).val ∧ (y 1).val < 1408 + 128; omega)⟩
        · exact ⟨_, List.getElem_mem (n := 9) (by simp), (Rect.mem_set_unit (s := S1024x2048) (inb := inb_S1024x2048_S1024x128_0_384)).mpr fun a => match a with | ⟨0, _⟩ => (by show 0 ≤ (y 0).val ∧ (y 0).val < 0 + 1024; omega) | ⟨1, _⟩ => (by show 384 ≤ (y 1).val ∧ (y 1).val < 384 + 128; omega)⟩
        · exact ⟨_, List.getElem_mem (n := 10) (by simp), (Rect.mem_set_unit (s := S1024x2048) (inb := inb_S1024x2048_S1024x128_0_1280)).mpr fun a => match a with | ⟨0, _⟩ => (by show 0 ≤ (y 0).val ∧ (y 0).val < 0 + 1024; omega) | ⟨1, _⟩ => (by show 1280 ≤ (y 1).val ∧ (y 1).val < 1280 + 128; omega)⟩
        · exact ⟨_, List.getElem_mem (n := 11) (by simp), (Rect.mem_set_unit (s := S1024x2048) (inb := inb_S1024x2048_S1024x128_0_256)).mpr fun a => match a with | ⟨0, _⟩ => (by show 0 ≤ (y 0).val ∧ (y 0).val < 0 + 1024; omega) | ⟨1, _⟩ => (by show 256 ≤ (y 1).val ∧ (y 1).val < 256 + 128; omega)⟩
        · exact ⟨_, List.getElem_mem (n := 12) (by simp), (Rect.mem_set_unit (s := S1024x2048) (inb := inb_S1024x2048_S1024x128_0_1152)).mpr fun a => match a with | ⟨0, _⟩ => (by show 0 ≤ (y 0).val ∧ (y 0).val < 0 + 1024; omega) | ⟨1, _⟩ => (by show 1152 ≤ (y 1).val ∧ (y 1).val < 1152 + 128; omega)⟩
        · exact ⟨_, List.getElem_mem (n := 13) (by simp), (Rect.mem_set_unit (s := S1024x2048) (inb := inb_S1024x2048_S1024x128_0_128)).mpr fun a => match a with | ⟨0, _⟩ => (by show 0 ≤ (y 0).val ∧ (y 0).val < 0 + 1024; omega) | ⟨1, _⟩ => (by show 128 ≤ (y 1).val ∧ (y 1).val < 128 + 128; omega)⟩
        · exact ⟨_, List.getElem_mem (n := 14) (by simp), (Rect.mem_set_unit (s := S1024x2048) (inb := inb_S1024x2048_S1024x128_0_1024)).mpr fun a => match a with | ⟨0, _⟩ => (by show 0 ≤ (y 0).val ∧ (y 0).val < 0 + 1024; omega) | ⟨1, _⟩ => (by show 1024 ≤ (y 1).val ∧ (y 1).val < 1024 + 128; omega)⟩
        · exact ⟨_, List.getElem_mem (n := 15) (by simp), (Rect.mem_set_unit (s := S1024x2048) (inb := inb_S1024x2048_S1024x128_0_0)).mpr fun a => match a with | ⟨0, _⟩ => (by show 0 ≤ (y 0).val ∧ (y 0).val < 0 + 1024; omega) | ⟨1, _⟩ => (by show 0 ≤ (y 1).val ∧ (y 1).val < 0 + 128; omega)⟩
    · rw [dif_neg (show ¬ body_run.sl.v10 c i xt0 = 1#1 from hf), if_neg hf, harg10.read_unread]
  have k1 : body_run.sl.v49_1 c i arg6 harg6 arg11 harg11 x3 s1 xt0 = if fresh c i xt0 = 1#1 then dnw x3 else s1 := by
    unfold body_run.sl.v49_1
    refine (View.readAt_full arg11.view _ _).trans ?_
    by_cases hf : fresh c i xt0 = 1#1
    · rw [dif_pos (show body_run.sl.v10 c i xt0 = 1#1 from hf), if_pos hf]
      refine (View.read_writes_full arg11.view _ _ _ _).trans ?_
      unfold body_run.sl.v129
      refine (shapeCast_self _ _).trans ?_
      show truncf .bf16 (shapeCast S1024x1024 (View.readAt (Elt F) arg6.view _ (harg6.unread x3)) shapeCasts_S1x1024x1024_S1024x1024) bitsLt_bf16_f32 = dnw x3
      rw [show _ = x3 from (View.readAt_full arg6.view _ _).trans (harg6.read_unread x3)]
      rfl
    · rw [dif_neg (show ¬ body_run.sl.v10 c i xt0 = 1#1 from hf), if_neg hf, harg11.read_unread]
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [show body_run.sl.r_3 c xt1 = used c xt1 from rfl]
    by_cases ha : k0_cond2 i (used c xt1) = 1#1
    · rw [dif_neg (fun h => (cond3_iff i _).mp h ha), dif_pos ha, if_pos ha]
      refine (View.read_writes_full arg9.view _ _ _ _).trans ?_
      rw [← k0, ← k1]
      conv_rhs => rw [← show View.readAt (Elt F) arg3.view (Rect.unit (s := S256x1024) ![0, 0] S256x1024.size inb_S256x1024_S256x1024_0_0).toLoadRect (harg3.unread x0) = x0 from (View.readAt_full arg3.view _ _).trans (harg3.read_unread x0),
        ← show View.readAt (Elt F) arg5.view (Rect.unit (s := S1x1x2048) ![0, 0, 0] S1x1x2048.size inb_S1x1x2048_S1x1x2048_0_0_0).toLoadRect (harg5.unread x2) = x2 from (View.readAt_full arg5.view _ _).trans (harg5.read_unread x2),
        ← show View.readAt (Elt F) arg7.view (Rect.unit (s := S1x1x1024) ![0, 0, 0] S1x1x1024.size inb_S1x1x1024_S1x1x1024_0_0_0).toLoadRect (harg7.unread x4) = x4 from (View.readAt_full arg7.view _ _).trans (harg7.read_unread x4)]
      rfl
    · rw [dif_pos ((cond3_iff i _).mpr ha), if_neg ha]
      exact View.read_writes_full arg9.view _ _ _ _
  isplitl [HS0]
  · iexists _; isplitr; swap; · iexact HS0
    ipureintro
    exact (View.readAt_full arg10.view _ _).symm.trans k0
  isplitl [HS1]
  · iexists _; isplitr; swap; · iexact HS1
    ipureintro
    exact (View.readAt_full arg11.view _ _).symm.trans k1
  isplitl [HT0]; · iexact HT0
  iexact HT1

end Cert.KernelIdeal.Hand

end
-- ==== Proof.ExpSetup.lean ====
/- The experts' launch: what the launch is set up from. -/
module

public import proofs.«01_k».proof.Proof.ExpRun
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the launch begins: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables' contents. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's blocks lie inside its array at those contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves the body is handed. -/
theorem tables_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a grid point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev stg0 (hO : Ok m) (t : Fin (cfgM m hO).N) : Memref sig .tc .vmem S256x1024 .f32 := spec0_0.stage ((cfgM m hO).slots t 0)
abbrev stg1 (hO : Ok m) (t : Fin (cfgM m hO).N) : Memref sig .tc .vmem S1x1024x2048 .f32 := spec0_1.stage ((cfgM m hO).slots t 1)
abbrev stg2 (hO : Ok m) (t : Fin (cfgM m hO).N) : Memref sig .tc .vmem S1x1x2048 .f32 := spec0_2.stage ((cfgM m hO).slots t 2)
abbrev stg3 (hO : Ok m) (t : Fin (cfgM m hO).N) : Memref sig .tc .vmem S1x1024x1024 .f32 := spec0_3.stage ((cfgM m hO).slots t 3)
abbrev stg4 (hO : Ok m) (t : Fin (cfgM m hO).N) : Memref sig .tc .vmem S1x1x1024 .f32 := spec0_4.stage ((cfgM m hO).slots t 4)
abbrev stg5 (hO : Ok m) (t : Fin (cfgM m hO).N) : Memref sig .tc .vmem S256x256 .bf16 := spec0_5.stage ((cfgM m hO).slots t 5)
abbrev stg6 (hO : Ok m) (t : Fin (cfgM m hO).N) : Memref sig .tc .vmem S256x1024 .f32 := spec0_6.stage ((cfgM m hO).slots t 6)
abbrev scr0 : Memref sig .tc .vmem S1024x2048 .bf16 := Memref.whole cc0_scratch0
abbrev scr1 : Memref sig .tc .vmem S1024x1024 .bf16 := Memref.whole cc0_scratch1

/-- The launch's own buffers, at some contents. -/
theorem own_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The result is written back at every point. -/
theorem flushes (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The result's buffer is written at every point. -/
theorem not_idle (pf : pre0.Contents (Elt F)) (i : grid0.Coords) : idle0 pf 6 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [(cond3_iff _ _).mpr h]; simp

/-- The kernel's body at a grid point. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

/-- The body the launch calls at a grid point is the kernel's body. -/
theorem row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The grid's points. -/
theorem coord (t : Fin grid0.N) : (grid0.coords t 0).val = t.val := by
  have ht : t.val < 224 := Nat.lt_of_lt_of_eq t.isLt N_0
  have e : (grid0.coords t 0).val = t.val / 1 % 224 := Pipeline.Grid.coords_val t 0 (by decide) rfl
  omega

/-- A block's expert, and the number of blocks in use. -/
def be (t : Fin 224) : BitVec 32 := (tbl m 0 : IVec S224 32) (ix1 t)
def nb : BitVec 32 := (tbl m 1 : IVec S1 32) (ix1 0)

theorem ix_1 (t : Fin grid0.N) : cc0_transform_1 k0_off1_inb numel1_S1 (tbl m) (grid0.coords t) = ![(be m ⟨t.val, Nat.lt_of_lt_of_eq t.isLt N_0⟩).toNat, 0, 0] := by
  have ht : t.val < 224 := Nat.lt_of_lt_of_eq t.isLt N_0
  have e : ((Rect.unit (s := S224) (k0_off1 (grid0.coords t)) S1.size (k0_off1_inb _)).emb (Shape.Idx.first (numel1_S1.symm ▸ Nat.one_pos)) : S224.Idx) = ix1 ⟨t.val, ht⟩ := by
    funext a
    refine Fin.ext ?_
    match a with
    | ⟨0, _⟩ =>
      show (BitVec.ofNat 32 (grid0.coords t 0).val).toNat + 1 * 0 = t.val
      rw [coord, BitVec.toNat_ofNat]; omega
  have e2 := congrArg (tbl m 0 : IVec S224 32) e
  unfold cc0_transform_1 be
  exact congrArg (fun z : BitVec 32 => (![z.toNat, 0, 0] : Fin 3 → ℕ)) e2

end Cert.KernelIdeal.Hand

end
-- ==== Proof.ExpBlk.lean ====
/- The experts' blocks over the arguments. -/
module

public import proofs.«01_k».proof.Proof.ExpSetup

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- The grid has 224 points. -/
abbrev pt (hO : Ok m) (t : Fin (cfgM m hO).N) : Fin 224 := ⟨t.val, Nat.lt_of_lt_of_eq t.isLt N_0⟩

theorem index_1 (hO : Ok m) (t : Fin (cfgM m hO).N) : ((cfgM m hO).win 1).index t = ![(be m (pt m hO t)).toNat, 0, 0] := ix_1 m t
theorem index_2 (hO : Ok m) (t : Fin (cfgM m hO).N) : ((cfgM m hO).win 2).index t = ![(be m (pt m hO t)).toNat, 0, 0] := ix_1 m t
theorem index_3 (hO : Ok m) (t : Fin (cfgM m hO).N) : ((cfgM m hO).win 3).index t = ![(be m (pt m hO t)).toNat, 0, 0] := ix_1 m t
theorem index_4 (hO : Ok m) (t : Fin (cfgM m hO).N) : ((cfgM m hO).win 4).index t = ![(be m (pt m hO t)).toNat, 0, 0] := ix_1 m t
theorem index_5 (hO : Ok m) (t : Fin (cfgM m hO).N) : ((cfgM m hO).win 5).index t = ![0, 0] := rfl
theorem index_6 (hO : Ok m) (t : Fin (cfgM m hO).N) : ((cfgM m hO).win 6).index t = ![t.val, 0] := by
  have h : t.val < 224 := Nat.lt_of_lt_of_eq t.isLt N_0
  show (![(BitVec.ofNat 32 (grid0.coords t 0).val).toNat, 0] : Fin 2 → ℕ) = ![t.val, 0]
  rw [coord, BitVec.toNat_ofNat, Nat.mod_eq_of_lt (by omega)]

/-- A block's expert is one of the 32. -/
theorem be_lt (hO : Ok m) (t : Fin (cfgM m hO).N) : (be m (pt m hO t)).toNat < 32 := by
  obtain ⟨h, -⟩ := hO.2.1 (grid0.coords t)
  have h0 := h 0
  rw [ix_1 m t] at h0
  change ((be m (pt m hO t)).toNat + 1) * 1 ≤ 32 at h0
  omega

variable (hO : Ok m) (c : Dev nD) (t : Fin (cfgM m hO).N)

theorem blk1 (y : S1x1024x2048.Idx) :
    iblk m hO c 1 t y = m ((c : Thread nD τ).loc main_arg3) (ix3 ⟨(be m (pt m hO t)).toNat, be_lt m hO t⟩ (y 1) (y 2)) := by
  have h0 : (y 0).val < 1 := (y 0).isLt
  blk_ext [iblk, V_main_arg3, index_1 m hO t]
theorem blk2 (y : S1x1x2048.Idx) :
    iblk m hO c 2 t y = V m c main_v3 (ix3 ⟨(be m (pt m hO t)).toNat, be_lt m hO t⟩ 0 (y 2)) := by
  have h0 : (y 0).val < 1 := (y 0).isLt
  have h1 : (y 1).val < 1 := (y 1).isLt
  blk_ext [iblk, index_2 m hO t]
theorem blk3 (y : S1x1024x1024.Idx) :
    iblk m hO c 3 t y = m ((c : Thread nD τ).loc main_arg5) (ix3 ⟨(be m (pt m hO t)).toNat, be_lt m hO t⟩ (y 1) (y 2)) := by
  have h0 : (y 0).val < 1 := (y 0).isLt
  blk_ext [iblk, V_main_arg5, index_3 m hO t]
theorem blk4 (y : S1x1x1024.Idx) :
    iblk m hO c 4 t y = V m c main_v4 (ix3 ⟨(be m (pt m hO t)).toNat, be_lt m hO t⟩ 0 (y 2)) := by
  have h0 : (y 0).val < 1 := (y 0).isLt
  have h1 : (y 1).val < 1 := (y 1).isLt
  blk_ext [iblk, index_4 m hO t]
theorem blk5 (y : S256x256.Idx) : iblk m hO c 5 t y = V m c main_cst y := by
  blk_ext [iblk, index_5 m hO t]

end Cert.KernelIdeal.Hand

end
-- ==== Proof.ExpLaunch.lean ====
/- The experts' launch: the weights kept from point to point, the body at a grid point, the whole run. -/
module

public import proofs.«01_k».proof.Proof.ExpBlk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights kept at a grid point. -/
abbrev gAt (hO : Ok m) (c : Dev nD) (t : Fin (cfgM m hO).N) : Vec F S1024x2048 .bf16 := guw (iblk m hO c 1 t) (iblk m hO c 5 t)
abbrev dAt (hO : Ok m) (c : Dev nD) (t : Fin (cfgM m hO).N) : Vec F S1024x1024 .bf16 := dnw (iblk m hO c 3 t)

/-- What a grid point leaves in the result's block. -/
def resAt (hO : Ok m) (c : Dev nD) (t : Fin (cfgM m hO).N) : Vec F S256x1024 .f32 :=
  if k0_cond2 (grid0.coords t) (used c (tbl m 1)) = 1#1 then
    outv (iblk m hO c 0 t) (iblk m hO c 2 t) (iblk m hO c 4 t) (gAt m hO c t) (dAt m hO c t)
  else zerov

/-- Weights not taken anew: not the first point, and the same words. -/
theorem stale (a w₁ w₂ : BitVec 32)
    (h : ¬ Scalar.cmpi .ne (Scalar.extui (Scalar.ori (Scalar.cmpi .eq a 0#32) (Scalar.cmpi .ne w₁ w₂)) : BitVec 32) 0#32 = 1#1) :
    a ≠ 0#32 ∧ w₁ = w₂ := by
  simp only [Scalar.cmpi, IntOp.cmpi, Scalar.extui, Scalar.ori] at h
  rcases h1 : (a == 0#32) <;> rcases h2 : (w₁ != w₂) <;> rw [h1, h2] at h
  · exact ⟨by simpa using h1, by simpa using h2⟩
  all_goals exact absurd (by decide) h

/-- The word of a table at a place. -/
theorem word_at (c : Dev nD) (off : Fin 1 → ℕ) (inb : ∀ a, off a + S1.size a ≤ S224.size a) (k : Fin 224) (h : off 0 = k.val) :
    word c (tbl m 0) off inb = be m k := by
  unfold be
  refine congrArg (tbl m 0 : IVec S224 32) (funext fun a => Fin.ext ?_)
  match a with
  | ⟨0, _⟩ => show off 0 + 1 * 0 = k.val; omega

theorem off1_at (t : Fin grid0.N) : k0_off1 (grid0.coords t) 0 = t.val := by
  have ht : t.val < 224 := Nat.lt_of_lt_of_eq t.isLt N_0
  show (BitVec.ofNat 32 (grid0.coords t 0).val).toNat = t.val
  rw [coord, BitVec.toNat_ofNat]; omega

theorem off2_at (t : Fin grid0.N) (h : t.val ≠ 0) : k0_off2 (grid0.coords t) 0 = t.val - 1 := by
  have ht : t.val < 224 := Nat.lt_of_lt_of_eq t.isLt N_0
  show (Scalar.maxsi (Scalar.subi (BitVec.ofNat 32 (grid0.coords t 0).val) 1#32) 0#32 : BitVec 32).toNat = t.val - 1
  rw [coord]
  have e : ∀ k : Fin 224, k.val ≠ 0 → (Scalar.maxsi (Scalar.subi (BitVec.ofNat 32 k.val) 1#32) 0#32 : BitVec 32).toNat = k.val - 1 := by decide +kernel
  exact e ⟨t.val, ht⟩ h

/-- Weights not taken anew are those of the point before, which are this point's. -/
theorem kept (hO : Ok m) (c : Dev nD) (t : Fin (cfgM m hO).N) (h : ¬ fresh c (grid0.coords t) (tbl m 0) = 1#1) :
    t.val ≠ 0 ∧ ∀ t' : Fin (cfgM m hO).N, t'.val + 1 = t.val → gAt m hO c t' = gAt m hO c t ∧ dAt m hO c t' = dAt m hO c t := by
  have ht : t.val < 224 := Nat.lt_of_lt_of_eq t.isLt N_0
  obtain ⟨h0, h1⟩ := stale _ _ _ h
  have hz : t.val ≠ 0 := by
    intro e
    apply h0
    rw [show (grid0.coords t 0).val = t.val from coord t, e]
  refine ⟨hz, fun t' e => ?_⟩
  rw [word_at m c _ _ ⟨t.val, ht⟩ (off1_at t), word_at m c _ _ ⟨t.val - 1, by omega⟩ (off2_at t hz)] at h1
  have hb : be m (pt m hO t') = be m (pt m hO t) := by
    rw [show pt m hO t' = ⟨t.val - 1, by omega⟩ from Fin.ext (by show t'.val = t.val - 1; omega)]
    exact h1.symm
  have e1 : (iblk m hO c 1 t' : S1x1024x2048.Idx → F .f32) = iblk m hO c 1 t := funext fun (y : S1x1024x2048.Idx) => by
    refine (blk1 m hO c t' y).trans ((congrArg (fun k => m ((c : Thread nD τ).loc main_arg3) (ix3 k (y 1) (y 2))) (Fin.ext ?_)).trans (blk1 m hO c t y).symm)
    exact congrArg BitVec.toNat hb
  have e3 : (iblk m hO c 3 t' : S1x1024x1024.Idx → F .f32) = iblk m hO c 3 t := funext fun (y : S1x1024x1024.Idx) => by
    refine (blk3 m hO c t' y).trans ((congrArg (fun k => m ((c : Thread nD τ).loc main_arg5) (ix3 k (y 1) (y 2))) (Fin.ext ?_)).trans (blk3 m hO c t y).symm)
    exact congrArg BitVec.toNat hb
  have e5 : (iblk m hO c 5 t' : S256x256.Idx → F .bf16) = iblk m hO c 5 t := funext fun (y : S256x256.Idx) => by
    exact (blk5 m hO c t' y).trans (blk5 m hO c t y).symm
  have eg : ∀ (w w' : Vec F S1x1024x2048 .f32) (p p' : Vec F S256x256 .bf16), w = w' → p = p' → guw w p = guw w' p' := by
    rintro _ _ _ _ rfl rfl; rfl
  exact ⟨eg _ _ _ _ e1 e5, congrArg dnw e3⟩

/-- What the two kept buffers hold before a grid point: after the first, the point before's weights. -/
def keptW (hO : Ok m) (c : Dev nD) (p : ℕ) : sProp 𝕄 :=
  iprop(∃ g, ∃ d, ⌜∀ t : Fin (cfgM m hO).N, t.val + 1 = p → g = gAt m hO c t ∧ d = dAt m hO c t⌝
    ∗ owns (c : Thread nD τ) scr0 fullShare g ∗ owns (c : Thread nD τ) scr1 fullShare d)

/-- The launch, point by point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => resAt m hO c t
  Φ p := iprop((keptW m hO c p.val ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = resAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d

/-- What the body is handed at a grid point. -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d)))

/-- What it hands back. -/
def handed (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t))

/-- The weights after a grid point are that point's. -/
theorem weights (hO : Ok m) (c : Dev nD) (t : Fin (cfgM m hO).N) (g : Vec F S1024x2048 .bf16) (d : Vec F S1024x1024 .bf16)
    (h : ∀ t' : Fin (cfgM m hO).N, t'.val + 1 = t.val → g = gAt m hO c t' ∧ d = dAt m hO c t') :
    (if fresh c (grid0.coords t) (tbl m 0) = 1#1 then gAt m hO c t else g) = gAt m hO c t
      ∧ (if fresh c (grid0.coords t) (tbl m 0) = 1#1 then dAt m hO c t else d) = dAt m hO c t := by
  by_cases hf : fresh c (grid0.coords t) (tbl m 0) = 1#1
  · rw [if_pos hf, if_pos hf]; exact ⟨rfl, rfl⟩
  · rw [if_neg hf, if_neg hf]
    obtain ⟨hz, hk⟩ := kept m hO c t hf
    have hl : t.val - 1 < (cfgM m hO).N := lt_of_le_of_lt (Nat.sub_le _ _) t.isLt
    have e : (⟨t.val - 1, hl⟩ : Fin (cfgM m hO).N).val + 1 = t.val := by show t.val - 1 + 1 = t.val; omega
    exact ⟨(h _ e).1.trans (hk _ e).1, (h _ e).2.trans (hk _ e).2⟩

set_option maxHeartbeats 1600000 in
/-- The body at a grid point, from its blocks and the weights kept, leaves the value in the result's buffer. -/
theorem body_at (hO : Ok m) (c : Dev nD) (t : Fin (cfgM m hO).N) :
    given m hO c t ⊢ wp frame (wpE (defs₀ (F := F)) Variants.none c none) Set.univ (bodyAt (adm m hO) t) (fun _ => handed m hO c t) := by
  unfold given handed bodyAt
  simp only [before_0, before_1, before_2, before_3, before_4, before_5]
  rw [show (dats m hO 0 c).owesAt () t.succ = (dats m hO 0 c).owesAt () t.castSucc from rfl,
    after_0, after_1, after_2, after_3, after_4, after_5, after_6]
  rw [show (dats m hO 0 c).Φ t.castSucc = iprop((keptW m hO c t.val ∗ (∃ r, prngReg c r)) ∗ Pipeline.ΦT pre0 (tbl m) c) from rfl,
    show (dats m hO 0 c).Φ t.succ = iprop((keptW m hO c (t.val + 1) ∗ (∃ r, prngReg c r)) ∗ Pipeline.ΦT pre0 (tbl m) c) from rfl, tables_eq]
  unfold keptW
  iintro ⟨⟨⟨⟨%g, %d, %hw, HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  have hW := weights m hO c t g d hw
  iapply (body_run c (grid0.coords t) _ _ _ _ _ _ _ _ _ _ _ _ _ _ _ _ _ _ (iblk m hO c 0 t) (iblk m hO c 1 t) (iblk m hO c 2 t) (iblk m hO c 3 t) (iblk m hO c 4 t) (iblk m hO c 5 t) g d (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  isplitl [HT1]; · iexact HT1
  rw [hW.1, hW.2]
  iintro ⟨H0, H1, H2, H3, H4, H5, H6, HS0, HS1, HT0, HT1⟩
  isplitl [HS0 HS1 Hg HT0 HT1]
  · isplitl [HS0 HS1 Hg]
    · isplitl [HS0 HS1]
      · iexists (gAt m hO c t); iexists (dAt m hO c t)
        isplitr
        · ipureintro
          intro t' e
          obtain rfl : t' = t := Fin.ext (by omega)
          exact ⟨rfl, rfl⟩
        isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand

end
-- ==== Proof.ExpWhole.lean ====
/- The experts' launch: the whole run. -/
module

public import proofs.«01_k».proof.Proof.ExpLaunch

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The obligation, where every window is read or written at every point. -/
theorem obligation_of {cfg : Cfg sig Λ₀} {c : Dev nD} (dat : Dat τ (Elt F) Unit ℕ (UR sig nD τ) ℕ cfg c)
    (hidle : ∀ w t, cfg.idle w (cfg.grid.coords t) = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none (c : Thread nD τ) none) Set.univ (defs₀ (F := F) .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  simp only [hidle]
  exact h t

theorem idle_eq (a : (pcfg0 (F := F)).Adm) : (cfg0 a).idle = idle0 a.1 := rfl
theorem never_idle (pf : pre0.Contents (Elt F)) (i : grid0.Coords) : ∀ w : Fin 7, idle0 pf w i = false
  | 0 => rfl | 1 => rfl | 2 => rfl | 3 => rfl | 4 => rfl | 5 => rfl | 6 => not_idle pf i
theorem no_idle (a : (pcfg0 (F := F)).Adm) (w : Fin (cfg0 a).W) (t : Fin (cfg0 a).N) : (cfg0 a).idle w ((cfg0 a).grid.coords t) = false := by
  rw [idle_eq]; exact never_idle a.1 _ w

set_option maxHeartbeats 1600000 in
/-- The body meets its obligation at every grid point. -/
theorem obligation (hO : Ok m) (c : Dev nD) : BodyObligation (dats (F := F) m hO 0 c) (defs₀ (F := F)) Variants.none () Set.univ :=
  obligation_of (dats (F := F) m hO 0 c) (no_idle (adm m hO)) fun t => by
    rw [bigSep_W0, bigSep_W0, row m hO]
    exact body_at m hO c t

set_option backward.isDefEq.respectTransparency.types false in
set_option maxHeartbeats 800000 in
/-- The program runs to the end: every array of the launch at what the grid points left in it, every other buffer as the
    host's operations left it, the counters at zero. -/
theorem whole_run (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ iprop((keptW m hO c 0 ∗ (∃ r, prngReg c r)) ∗ Pipeline.ΦT pre0 (tbl m) c)
      rw [own_eq]
      unfold keptW
      iintro ⟨⟨⟨⟨%g, HS0⟩, ⟨%d, HS1⟩⟩, Hg⟩, HT⟩
      isplitl [HS0 HS1 Hg]
      · isplitl [HS0 HS1]
        · iexists g; iexists d
          isplitr
          · ipureintro
            intro t e
            exact absurd e (Nat.succ_ne_zero _)
          isplitl [HS0]
          · iexact HS0
          iexact HS1
        iexact Hg
      iexact HT)
    (hout := fun c => by
      show iprop((keptW m hO c (cfgM m hO).N ∗ (∃ r, prngReg c r)) ∗ Pipeline.ΦT pre0 (tbl m) c) ⊢ Pipeline.ΦA spec0 c
      rw [own_eq]
      unfold keptW
      iintro ⟨⟨⟨%g, %d, %hw, HS0, HS1⟩, Hg⟩, HT⟩
      isplitl [HS0 HS1]
      · isplitl [HS0]
        · iexists g; iexact HS0
        iexists d; iexact HS1
      iexact Hg)

/-- An array no point writes back ends as it was. -/
theorem array_in (hO : Ok m) (r : PUnit × MemSt nD τ sig (Elt F)) (h : Pipeline.FramePost (Pipeline.pin pcfgs fun _ => adm m hO) (dats m hO) 0 (V m) r)
    (c : Dev nD) (w : Fin (cfgM m hO).W) (hin : ((cfgM m hO).win w).isOut = false) :
    r.2.mem (((cfgM m hO).spec w).arr.view.loc (c.tc : Thread nD τ)) = V m c (Pipeline.arrRef spec0 w) :=
  ((h c).1 w).trans (((dats m hO 0 c).arrAt_in w hin _).trans (A_eq m hO c w))

/-- The program runs to the end with its arguments unchanged and every counter back at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (array_in m hO r h.1 c 0 rfl).trans (V_main_arg2 m c),
      (array_in m hO r h.1 c 1 rfl).trans (V_main_arg3 m c),
      ((h.1 c).2 main_arg4 (by decide : main_arg4 ∈ Pipeline.restRefs sig spec0)).trans (V_main_arg4 m c),
      (array_in m hO r h.1 c 3 rfl).trans (V_main_arg5 m c),
      ((h.1 c).2 main_arg6 (by decide : main_arg6 ∈ Pipeline.restRefs sig spec0)).trans (V_main_arg6 m c)⟩, h.2⟩) (whole_run m ρ hO)

end Cert.KernelIdeal.Hand

end
-- ==== Proof.ExpOk.lean ====
/- The experts' launch: where its blocks lie. -/
module

public import proofs.«01_k».proof.Proof.ExpWhole
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- A word that is not negative is its natural value. -/
theorem nat_of (s : BitVec 32) (h : 0 ≤ s.toInt) : s.toNat = s.toInt.toNat := by
  have h1 := BitVec.toInt_eq_toNat_cond s
  have h2 := s.isLt
  split at h1 <;> omega

/-- The least of a point and the last block in use. -/
theorem clip (k : Fin 224) (n : BitVec 32) (h : 1 ≤ n.toInt) :
    (Scalar.minsi (BitVec.ofNat 32 k.val) (Scalar.subi n 1#32) : BitVec 32).toNat = min k.val (n.toInt - 1).toNat := by
  have hk := k.isLt
  have en : (n - 1#32).toInt = n.toInt - 1 := by
    have h2 := BitVec.toInt_lt (x := n)
    rw [BitVec.toInt_sub, show (1#32 : BitVec 32).toInt = 1 from by decide, Int.bmod_def]
    omega
  have ek : (BitVec.ofNat 32 k.val).toInt = k.val := by
    rw [BitVec.toInt_eq_toNat_of_lt (by rw [BitVec.toNat_ofNat]; omega), BitVec.toNat_ofNat]; omega
  show (Scalar.minsi (BitVec.ofNat 32 k.val) (n - 1#32) : BitVec 32).toNat = _
  generalize n - 1#32 = s at *
  unfold Scalar.minsi IntOp.minsi
  split
  · rename_i hc
    simp only [BitVec.slt_eq_decide, BitVec.sle_eq_decide, decide_eq_true_eq] at hc
    rw [BitVec.toNat_ofNat]; omega
  · rename_i hc
    simp only [BitVec.slt_eq_decide, BitVec.sle_eq_decide, decide_eq_true_eq] at hc
    rw [nat_of s (by omega)]; omega

theorem ix_0 (t : Fin grid0.N) (h : 1 ≤ (nb m).toInt) :
    cc0_transform_0 inb_S1_S1_0 numel1_S1 (tbl m) (grid0.coords t) = ![min t.val ((nb m).toInt - 1).toNat, 0] := by
  have ht : t.val < 224 := Nat.lt_of_lt_of_eq t.isLt N_0
  have e : ((Rect.unit (s := S1) ![0] S1.size inb_S1_S1_0).emb (Shape.Idx.first (numel1_S1.symm ▸ Nat.one_pos)) : S1.Idx) = ix1 0 := by
    funext a
    refine Fin.ext ?_
    match a with
    | ⟨0, _⟩ => rfl
  have e2 := congrArg (tbl m 1 : IVec S1 32) e
  unfold cc0_transform_0
  refine (congrArg (fun z : BitVec 32 => (![(Scalar.minsi (BitVec.ofNat 32 (grid0.coords t 0).val) (Scalar.subi z 1#32) : BitVec 32).toNat, 0] : Fin 2 → ℕ)) e2).trans ?_
  rw [coord]
  exact congrArg (fun z : ℕ => (![z, 0] : Fin 2 → ℕ)) (clip ⟨t.val, ht⟩ (nb m) h)

/-- Every point of the grid is one of its numbered ones. -/
theorem point_of (i : grid0.Coords) : ∃ t : Fin grid0.N, grid0.coords t = i := by
  have hi : (i 0).val < 224 := (i 0).isLt
  refine ⟨⟨(i 0).val, Nat.lt_of_lt_of_eq hi N_0.symm⟩, ?_⟩
  funext a
  refine Fin.ext ?_
  match a with
  | ⟨0, _⟩ => exact coord _

/-- Blocks whose experts are among the 32 lie inside their arrays, where a block is in use. -/
theorem ok_of (hb : ∀ t, (be m t).toNat < 32) (hn : 1 ≤ (nb m).toInt) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩⟩ <;> obtain ⟨t, rfl⟩ := point_of i <;> have ht : t.val < 224 := Nat.lt_of_lt_of_eq t.isLt N_0
  · rw [ix_0 m t hn]
    match a with
    | ⟨0, _⟩ => show (min t.val ((nb m).toInt - 1).toNat + 1) * 256 ≤ 57344; omega
    | ⟨1, _⟩ => show (0 + 1) * 1024 ≤ 1024; omega
  · rw [ix_1 m t]
    have hb := hb ⟨t.val, ht⟩
    match a with
    | ⟨0, _⟩ => show ((be m ⟨t.val, ht⟩).toNat + 1) * 1 ≤ 32; omega
    | ⟨1, _⟩ => show (0 + 1) * 1024 ≤ 1024; omega
    | ⟨2, _⟩ => show (0 + 1) * 2048 ≤ 2048; omega
  · rw [show cc0_transform_2 k0_off1_inb numel1_S1 (tbl m) (grid0.coords t) = _ from ix_1 m t]
    have hb := hb ⟨t.val, ht⟩
    match a with
    | ⟨0, _⟩ => show ((be m ⟨t.val, ht⟩).toNat + 1) * 1 ≤ 32; omega
    | ⟨1, _⟩ => show (0 + 1) * 1 ≤ 1; omega
    | ⟨2, _⟩ => show (0 + 1) * 2048 ≤ 2048; omega
  · rw [show cc0_transform_3 k0_off1_inb numel1_S1 (tbl m) (grid0.coords t) = _ from ix_1 m t]
    have hb := hb ⟨t.val, ht⟩
    match a with
    | ⟨0, _⟩ => show ((be m ⟨t.val, ht⟩).toNat + 1) * 1 ≤ 32; omega
    | ⟨1, _⟩ => show (0 + 1) * 1024 ≤ 1024; omega
    | ⟨2, _⟩ => show (0 + 1) * 1024 ≤ 1024; omega
  · rw [show cc0_transform_4 k0_off1_inb numel1_S1 (tbl m) (grid0.coords t) = _ from ix_1 m t]
    have hb := hb ⟨t.val, ht⟩
    match a with
    | ⟨0, _⟩ => show ((be m ⟨t.val, ht⟩).toNat + 1) * 1 ≤ 32; omega
    | ⟨1, _⟩ => show (0 + 1) * 1 ≤ 1; omega
    | ⟨2, _⟩ => show (0 + 1) * 1024 ≤ 1024; omega

theorem be_arg (t : Fin 224) : be m t = (m (((0 : Dev nD) : Thread nD τ).loc main_arg0) : IVec S224 32) (ix1 t) := congrFun (V_main_arg0 m 0) (ix1 t)
theorem nb_arg : nb m = (m (((0 : Dev nD) : Thread nD τ).loc main_arg1) : IVec S1 32) (ix1 0) := congrFun (V_main_arg1 m 0) (ix1 0)

/-- The same from the tables' arguments. -/
theorem ok_args (h : (∀ t : Fin 224, ((m (((0 : Dev nD) : Thread nD τ).loc main_arg0) : IVec S224 32) (ix1 t)).toNat < 32)
    ∧ 1 ≤ ((m (((0 : Dev nD) : Thread nD τ).loc main_arg1) : IVec S1 32) (ix1 0)).toInt) : Ok m ∧ 1 ≤ (nb m).toInt := by
  have hn : 1 ≤ (nb m).toInt := by rw [nb_arg]; exact h.2
  exact ⟨ok_of m (fun t => by rw [be_arg]; exact h.1 t) hn, hn⟩

end Cert.KernelIdeal.Hand

end
-- ==== Proof.ExpLit.lean ====
/- The matrix that gathers the even columns, entry by entry. -/
module

public import proofs.«01_k».proof.KernelIdeal

@[expose] public section

set_option maxRecDepth 100000

namespace Cert.KernelIdeal.Hand

open Cert.KernelIdeal

/-- The entries of half a row: a one in the column that gathers it, else nothing. -/
def half (n : ℕ) : List (BitVec 16) := (List.range 128).map fun k => if n / 2 = 2 * k + n % 2 then 0x3F80#16 else 0#16

/-- A choice among 128 is the entry of their list. -/
theorem pick {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 z : BitVec 16} : ∀ r : ℕ, r < 128 → (match r with
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | 15 => a15
  | 16 => a16
  | 17 => a17
  | 18 => a18
  | 19 => a19
  | 20 => a20
  | 21 => a21
  | 22 => a22
  | 23 => a23
  | 24 => a24
  | 25 => a25
  | 26 => a26
  | 27 => a27
  | 28 => a28
  | 29 => a29
  | 30 => a30
  | 31 => a31
  | 32 => a32
  | 33 => a33
  | 34 => a34
  | 35 => a35
  | 36 => a36
  | 37 => a37
  | 38 => a38
  | 39 => a39
  | 40 => a40
  | 41 => a41
  | 42 => a42
  | 43 => a43
  | 44 => a44
  | 45 => a45
  | 46 => a46
  | 47 => a47
  | 48 => a48
  | 49 => a49
  | 50 => a50
  | 51 => a51
  | 52 => a52
  | 53 => a53
  | 54 => a54
  | 55 => a55
  | 56 => a56
  | 57 => a57
  | 58 => a58
  | 59 => a59
  | 60 => a60
  | 61 => a61
  | 62 => a62
  | 63 => a63
  | 64 => a64
  | 65 => a65
  | 66 => a66
  | 67 => a67
  | 68 => a68
  | 69 => a69
  | 70 => a70
  | 71 => a71
  | 72 => a72
  | 73 => a73
  | 74 => a74
  | 75 => a75
  | 76 => a76
  | 77 => a77
  | 78 => a78
  | 79 => a79
  | 80 => a80
  | 81 => a81
  | 82 => a82
  | 83 => a83
  | 84 => a84
  | 85 => a85
  | 86 => a86
  | 87 => a87
  | 88 => a88
  | 89 => a89
  | 90 => a90
  | 91 => a91
  | 92 => a92
  | 93 => a93
  | 94 => a94
  | 95 => a95
  | 96 => a96
  | 97 => a97
  | 98 => a98
  | 99 => a99
  | 100 => a100
  | 101 => a101
  | 102 => a102
  | 103 => a103
  | 104 => a104
  | 105 => a105
  | 106 => a106
  | 107 => a107
  | 108 => a108
  | 109 => a109
  | 110 => a110
  | 111 => a111
  | 112 => a112
  | 113 => a113
  | 114 => a114
  | 115 => a115
  | 116 => a116
  | 117 => a117
  | 118 => a118
  | 119 => a119
  | 120 => a120
  | 121 => a121
  | 122 => a122
  | 123 => a123
  | 124 => a124
  | 125 => a125
  | 126 => a126
  | 127 => a127
  | _ => z)
    = [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95, a96, a97, a98, a99, a100, a101, a102, a103, a104, a105, a106, a107, a108, a109, a110, a111, a112, a113, a114, a115, a116, a117, a118, a119, a120, a121, a122, a123, a124, a125, a126, a127].getD r 0#16
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | n + 128, h => absurd h (by omega)

/-- What holds of each of 128 holds of a choice among them. -/
theorem each {P : ℕ → BitVec 16 → Prop} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 z : BitVec 16}
    (h0 : P 0 a0) (h1 : P 1 a1) (h2 : P 2 a2) (h3 : P 3 a3) (h4 : P 4 a4) (h5 : P 5 a5) (h6 : P 6 a6) (h7 : P 7 a7) (h8 : P 8 a8) (h9 : P 9 a9) (h10 : P 10 a10) (h11 : P 11 a11) (h12 : P 12 a12) (h13 : P 13 a13) (h14 : P 14 a14) (h15 : P 15 a15) (h16 : P 16 a16) (h17 : P 17 a17) (h18 : P 18 a18) (h19 : P 19 a19) (h20 : P 20 a20) (h21 : P 21 a21) (h22 : P 22 a22) (h23 : P 23 a23) (h24 : P 24 a24) (h25 : P 25 a25) (h26 : P 26 a26) (h27 : P 27 a27) (h28 : P 28 a28) (h29 : P 29 a29) (h30 : P 30 a30) (h31 : P 31 a31) (h32 : P 32 a32) (h33 : P 33 a33) (h34 : P 34 a34) (h35 : P 35 a35) (h36 : P 36 a36) (h37 : P 37 a37) (h38 : P 38 a38) (h39 : P 39 a39) (h40 : P 40 a40) (h41 : P 41 a41) (h42 : P 42 a42) (h43 : P 43 a43) (h44 : P 44 a44) (h45 : P 45 a45) (h46 : P 46 a46) (h47 : P 47 a47) (h48 : P 48 a48) (h49 : P 49 a49) (h50 : P 50 a50) (h51 : P 51 a51) (h52 : P 52 a52) (h53 : P 53 a53) (h54 : P 54 a54) (h55 : P 55 a55) (h56 : P 56 a56) (h57 : P 57 a57) (h58 : P 58 a58) (h59 : P 59 a59) (h60 : P 60 a60) (h61 : P 61 a61) (h62 : P 62 a62) (h63 : P 63 a63) (h64 : P 64 a64) (h65 : P 65 a65) (h66 : P 66 a66) (h67 : P 67 a67) (h68 : P 68 a68) (h69 : P 69 a69) (h70 : P 70 a70) (h71 : P 71 a71) (h72 : P 72 a72) (h73 : P 73 a73) (h74 : P 74 a74) (h75 : P 75 a75) (h76 : P 76 a76) (h77 : P 77 a77) (h78 : P 78 a78) (h79 : P 79 a79) (h80 : P 80 a80) (h81 : P 81 a81) (h82 : P 82 a82) (h83 : P 83 a83) (h84 : P 84 a84) (h85 : P 85 a85) (h86 : P 86 a86) (h87 : P 87 a87) (h88 : P 88 a88) (h89 : P 89 a89) (h90 : P 90 a90) (h91 : P 91 a91) (h92 : P 92 a92) (h93 : P 93 a93) (h94 : P 94 a94) (h95 : P 95 a95) (h96 : P 96 a96) (h97 : P 97 a97) (h98 : P 98 a98) (h99 : P 99 a99) (h100 : P 100 a100) (h101 : P 101 a101) (h102 : P 102 a102) (h103 : P 103 a103) (h104 : P 104 a104) (h105 : P 105 a105) (h106 : P 106 a106) (h107 : P 107 a107) (h108 : P 108 a108) (h109 : P 109 a109) (h110 : P 110 a110) (h111 : P 111 a111) (h112 : P 112 a112) (h113 : P 113 a113) (h114 : P 114 a114) (h115 : P 115 a115) (h116 : P 116 a116) (h117 : P 117 a117) (h118 : P 118 a118) (h119 : P 119 a119) (h120 : P 120 a120) (h121 : P 121 a121) (h122 : P 122 a122) (h123 : P 123 a123) (h124 : P 124 a124) (h125 : P 125 a125) (h126 : P 126 a126) (h127 : P 127 a127) : ∀ r : ℕ, r < 128 → P r (match r with
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | 15 => a15
  | 16 => a16
  | 17 => a17
  | 18 => a18
  | 19 => a19
  | 20 => a20
  | 21 => a21
  | 22 => a22
  | 23 => a23
  | 24 => a24
  | 25 => a25
  | 26 => a26
  | 27 => a27
  | 28 => a28
  | 29 => a29
  | 30 => a30
  | 31 => a31
  | 32 => a32
  | 33 => a33
  | 34 => a34
  | 35 => a35
  | 36 => a36
  | 37 => a37
  | 38 => a38
  | 39 => a39
  | 40 => a40
  | 41 => a41
  | 42 => a42
  | 43 => a43
  | 44 => a44
  | 45 => a45
  | 46 => a46
  | 47 => a47
  | 48 => a48
  | 49 => a49
  | 50 => a50
  | 51 => a51
  | 52 => a52
  | 53 => a53
  | 54 => a54
  | 55 => a55
  | 56 => a56
  | 57 => a57
  | 58 => a58
  | 59 => a59
  | 60 => a60
  | 61 => a61
  | 62 => a62
  | 63 => a63
  | 64 => a64
  | 65 => a65
  | 66 => a66
  | 67 => a67
  | 68 => a68
  | 69 => a69
  | 70 => a70
  | 71 => a71
  | 72 => a72
  | 73 => a73
  | 74 => a74
  | 75 => a75
  | 76 => a76
  | 77 => a77
  | 78 => a78
  | 79 => a79
  | 80 => a80
  | 81 => a81
  | 82 => a82
  | 83 => a83
  | 84 => a84
  | 85 => a85
  | 86 => a86
  | 87 => a87
  | 88 => a88
  | 89 => a89
  | 90 => a90
  | 91 => a91
  | 92 => a92
  | 93 => a93
  | 94 => a94
  | 95 => a95
  | 96 => a96
  | 97 => a97
  | 98 => a98
  | 99 => a99
  | 100 => a100
  | 101 => a101
  | 102 => a102
  | 103 => a103
  | 104 => a104
  | 105 => a105
  | 106 => a106
  | 107 => a107
  | 108 => a108
  | 109 => a109
  | 110 => a110
  | 111 => a111
  | 112 => a112
  | 113 => a113
  | 114 => a114
  | 115 => a115
  | 116 => a116
  | 117 => a117
  | 118 => a118
  | 119 => a119
  | 120 => a120
  | 121 => a121
  | 122 => a122
  | 123 => a123
  | 124 => a124
  | 125 => a125
  | 126 => a126
  | 127 => a127
  | _ => z)
  | 0, _ => h0
  | 1, _ => h1
  | 2, _ => h2
  | 3, _ => h3
  | 4, _ => h4
  | 5, _ => h5
  | 6, _ => h6
  | 7, _ => h7
  | 8, _ => h8
  | 9, _ => h9
  | 10, _ => h10
  | 11, _ => h11
  | 12, _ => h12
  | 13, _ => h13
  | 14, _ => h14
  | 15, _ => h15
  | 16, _ => h16
  | 17, _ => h17
  | 18, _ => h18
  | 19, _ => h19
  | 20, _ => h20
  | 21, _ => h21
  | 22, _ => h22
  | 23, _ => h23
  | 24, _ => h24
  | 25, _ => h25
  | 26, _ => h26
  | 27, _ => h27
  | 28, _ => h28
  | 29, _ => h29
  | 30, _ => h30
  | 31, _ => h31
  | 32, _ => h32
  | 33, _ => h33
  | 34, _ => h34
  | 35, _ => h35
  | 36, _ => h36
  | 37, _ => h37
  | 38, _ => h38
  | 39, _ => h39
  | 40, _ => h40
  | 41, _ => h41
  | 42, _ => h42
  | 43, _ => h43
  | 44, _ => h44
  | 45, _ => h45
  | 46, _ => h46
  | 47, _ => h47
  | 48, _ => h48
  | 49, _ => h49
  | 50, _ => h50
  | 51, _ => h51
  | 52, _ => h52
  | 53, _ => h53
  | 54, _ => h54
  | 55, _ => h55
  | 56, _ => h56
  | 57, _ => h57
  | 58, _ => h58
  | 59, _ => h59
  | 60, _ => h60
  | 61, _ => h61
  | 62, _ => h62
  | 63, _ => h63
  | 64, _ => h64
  | 65, _ => h65
  | 66, _ => h66
  | 67, _ => h67
  | 68, _ => h68
  | 69, _ => h69
  | 70, _ => h70
  | 71, _ => h71
  | 72, _ => h72
  | 73, _ => h73
  | 74, _ => h74
  | 75, _ => h75
  | 76, _ => h76
  | 77, _ => h77
  | 78, _ => h78
  | 79, _ => h79
  | 80, _ => h80
  | 81, _ => h81
  | 82, _ => h82
  | 83, _ => h83
  | 84, _ => h84
  | 85, _ => h85
  | 86, _ => h86
  | 87, _ => h87
  | 88, _ => h88
  | 89, _ => h89
  | 90, _ => h90
  | 91, _ => h91
  | 92, _ => h92
  | 93, _ => h93
  | 94, _ => h94
  | 95, _ => h95
  | 96, _ => h96
  | 97, _ => h97
  | 98, _ => h98
  | 99, _ => h99
  | 100, _ => h100
  | 101, _ => h101
  | 102, _ => h102
  | 103, _ => h103
  | 104, _ => h104
  | 105, _ => h105
  | 106, _ => h106
  | 107, _ => h107
  | 108, _ => h108
  | 109, _ => h109
  | 110, _ => h110
  | 111, _ => h111
  | 112, _ => h112
  | 113, _ => h113
  | 114, _ => h114
  | 115, _ => h115
  | 116, _ => h116
  | 117, _ => h117
  | 118, _ => h118
  | 119, _ => h119
  | 120, _ => h120
  | 121, _ => h121
  | 122, _ => h122
  | 123, _ => h123
  | 124, _ => h124
  | 125, _ => h125
  | 126, _ => h126
  | 127, _ => h127
  | n + 128, h => absurd h (by omega)

/-- Half a row from its list. -/
theorem leaf (i n : ℕ) {v : BitVec 16} {L : List (BitVec 16)} (h : v = L.getD (i % 128) 0#16) (e : L = half n) : v = (half n).getD (i % 128) 0#16 := e ▸ h

theorem lt128 (i : ℕ) : i % 128 < 128 := Nat.mod_lt _ (by decide)

theorem piece0 (i : ℕ) : lit0t1_0 i = (half (128 * 0 + i / 128 % 128)).getD (i % 128) 0#16 :=
  each (P := fun r v => v = (half (128 * 0 + r)).getD (i % 128) 0#16)
    (leaf i 0 (pick _ (lt128 i)) (by decide +kernel))
    (leaf i 1 (pick _ (lt128 i)) (by decide +kernel))
    (leaf i 2 (pick _ (lt128 i)) (by decide +kernel))
    (leaf i 3 (pick _ (lt128 i)) (by decide +kernel))
    (leaf i 4 (pick _ (lt128 i)) (by decide +kernel))
    (leaf i 5 (pick _ (lt128 i)) (by decide +kernel))
    (leaf i 6 (pick _ (lt128 i)) (by decide +kernel))
    (leaf i 7 (pick _ (lt128 i)) (by decide +kernel))
    (leaf i 8 (pick _ (lt128 i)) (by decide +kernel))
    (leaf i 9 (pick _ (lt128 i)) (by decide +kernel))
    (leaf i 10 (pick _ (lt128 i)) (by decide +kernel))
    (leaf i 11 (pick _ (lt128 i)) (by decide +kernel))
    (leaf i 12 (pick _ (lt128 i)) (by decide +kernel))
    (leaf i 13 (pick _ (lt128 i)) (by decide +kernel))
    (leaf i 14 (pick _ (lt128 i)) (by decide +kernel))
    (leaf i 15 (pick _ (lt128 i)) (by decide +kernel))
    (leaf i 16 (pick _ (lt128 i)) (by decide +kernel))
    (leaf i 17 (pick _ (lt128 i)) (by decide +kernel))
    (leaf i 18 (pick _ (lt128 i)) (by decide +kernel))
    (leaf i 19 (pick _ (lt128 i)) (by decide +kernel))
    (leaf i 20 (pick _ (lt128 i)) (by decide +kernel))
    (leaf i 21 (pick _ (lt128 i)) (by decide +kernel))
    (leaf i 22 (pick _ (lt128 i)) (by decide +kernel))
    (leaf i 23 (pick _ (lt128 i)) (by decide +kernel))
    (leaf i 24 (pick _ (lt128 i)) (by decide +kernel))
    (leaf i 25 (pick _ (lt128 i)) (by decide +kernel))
    (leaf i 26 (pick _ (lt128 i)) (by decide +kernel))
    (leaf i 27 (pick _ (lt128 i)) (by decide +kernel))
    (leaf i 28 (pick _ (lt128 i)) (by decide +kernel))
    (leaf i 29 (pick _ (lt128 i)) (by decide +kernel))
    (leaf i 30 (pick _ (lt128 i)) (by decide +kernel))
    (leaf i 31 (pick _ (lt128 i)) (by decide +kernel))
    (leaf i 32 (pick _ (lt128 i)) (by decide +kernel))
    (leaf i 33 (pick _ (lt128 i)) (by decide +kernel))
    (leaf i 34 (pick _ (lt128 i)) (by decide +kernel))
    (leaf i 35 (pick _ (lt128 i)) (by decide +kernel))
    (leaf i 36 (pick _ (lt128 i)) (by decide +kernel))
    (leaf i 37 (pick _ (lt128 i)) (by decide +kernel))
    (leaf i 38 (pick _ (lt128 i)) (by decide +kernel))
    (leaf i 39 (pick _ (lt128 i)) (by decide +kernel))
    (leaf i 40 (pick _ (lt128 i)) (by decide +kernel))
    (leaf i 41 (pick _ (lt128 i)) (by decide +kernel))
    (leaf i 42 (pick _ (lt128 i)) (by decide +kernel))
    (leaf i 43 (pick _ (lt128 i)) (by decide +kernel))
    (leaf i 44 (pick _ (lt128 i)) (by decide +kernel))
    (leaf i 45 (pick _ (lt128 i)) (by decide +kernel))
    (leaf i 46 (pick _ (lt128 i)) (by decide +kernel))
    (leaf i 47 (pick _ (lt128 i)) (by decide +kernel))
    (leaf i 48 (pick _ (lt128 i)) (by decide +kernel))
    (leaf i 49 (pick _ (lt128 i)) (by decide +kernel))
    (leaf i 50 (pick _ (lt128 i)) (by decide +kernel))
    (leaf i 51 (pick _ (lt128 i)) (by decide +kernel))
    (leaf i 52 (pick _ (lt128 i)) (by decide +kernel))
    (leaf i 53 (pick _ (lt128 i)) (by decide +kernel))
    (leaf i 54 (pick _ (lt128 i)) (by decide +kernel))
    (leaf i 55 (pick _ (lt128 i)) (by decide +kernel))
    (leaf i 56 (pick _ (lt128 i)) (by decide +kernel))
    (leaf i 57 (pick _ (lt128 i)) (by decide +kernel))
    (leaf i 58 (pick _ (lt128 i)) (by decide +kernel))
    (leaf i 59 (pick _ (lt128 i)) (by decide +kernel))
    (leaf i 60 (pick _ (lt128 i)) (by decide +kernel))
    (leaf i 61 (pick _ (lt128 i)) (by decide +kernel))
    (leaf i 62 (pick _ (lt128 i)) (by decide +kernel))
    (leaf i 63 (pick _ (lt128 i)) (by decide +kernel))
    (leaf i 64 (pick _ (lt128 i)) (by decide +kernel))
    (leaf i 65 (pick _ (lt128 i)) (by decide +kernel))
    (leaf i 66 (pick _ (lt128 i)) (by decide +kernel))
    (leaf i 67 (pick _ (lt128 i)) (by decide +kernel))
    (leaf i 68 (pick _ (lt128 i)) (by decide +kernel))
    (leaf i 69 (pick _ (lt128 i)) (by decide +kernel))
    (leaf i 70 (pick _ (lt128 i)) (by decide +kernel))
    (leaf i 71 (pick _ (lt128 i)) (by decide +kernel))
    (leaf i 72 (pick _ (lt128 i)) (by decide +kernel))
    (leaf i 73 (pick _ (lt128 i)) (by decide +kernel))
    (leaf i 74 (pick _ (lt128 i)) (by decide +kernel))
    (leaf i 75 (pick _ (lt128 i)) (by decide +kernel))
    (leaf i 76 (pick _ (lt128 i)) (by decide +kernel))
    (leaf i 77 (pick _ (lt128 i)) (by decide +kernel))
    (leaf i 78 (pick _ (lt128 i)) (by decide +kernel))
    (leaf i 79 (pick _ (lt128 i)) (by decide +kernel))
    (leaf i 80 (pick _ (lt128 i)) (by decide +kernel))
    (leaf i 81 (pick _ (lt128 i)) (by decide +kernel))
    (leaf i 82 (pick _ (lt128 i)) (by decide +kernel))
    (leaf i 83 (pick _ (lt128 i)) (by decide +kernel))
    (leaf i 84 (pick _ (lt128 i)) (by decide +kernel))
    (leaf i 85 (pick _ (lt128 i)) (by decide +kernel))
    (leaf i 86 (pick _ (lt128 i)) (by decide +kernel))
    (leaf i 87 (pick _ (lt128 i)) (by decide +kernel))
    (leaf i 88 (pick _ (lt128 i)) (by decide +kernel))
    (leaf i 89 (pick _ (lt128 i)) (by decide +kernel))
    (leaf i 90 (pick _ (lt128 i)) (by decide +kernel))
    (leaf i 91 (pick _ (lt128 i)) (by decide +kernel))
    (leaf i 92 (pick _ (lt128 i)) (by decide +kernel))
    (leaf i 93 (pick _ (lt128 i)) (by decide +kernel))
    (leaf i 94 (pick _ (lt128 i)) (by decide +kernel))
    (leaf i 95 (pick _ (lt128 i)) (by decide +kernel))
    (leaf i 96 (pick _ (lt128 i)) (by decide +kernel))
    (leaf i 97 (pick _ (lt128 i)) (by decide +kernel))
    (leaf i 98 (pick _ (lt128 i)) (by decide +kernel))
    (leaf i 99 (pick _ (lt128 i)) (by decide +kernel))
    (leaf i 100 (pick _ (lt128 i)) (by decide +kernel))
    (leaf i 101 (pick _ (lt128 i)) (by decide +kernel))
    (leaf i 102 (pick _ (lt128 i)) (by decide +kernel))
    (leaf i 103 (pick _ (lt128 i)) (by decide +kernel))
    (leaf i 104 (pick _ (lt128 i)) (by decide +kernel))
    (leaf i 105 (pick _ (lt128 i)) (by decide +kernel))
    (leaf i 106 (pick _ (lt128 i)) (by decide +kernel))
    (leaf i 107 (pick _ (lt128 i)) (by decide +kernel))
    (leaf i 108 (pick _ (lt128 i)) (by decide +kernel))
    (leaf i 109 (pick _ (lt128 i)) (by decide +kernel))
    (leaf i 110 (pick _ (lt128 i)) (by decide +kernel))
    (leaf i 111 (pick _ (lt128 i)) (by decide +kernel))
    (leaf i 112 (pick _ (lt128 i)) (by decide +kernel))
    (leaf i 113 (pick _ (lt128 i)) (by decide +kernel))
    (leaf i 114 (pick _ (lt128 i)) (by decide +kernel))
    (leaf i 115 (pick _ (lt128 i)) (by decide +kernel))
    (leaf i 116 (pick _ (lt128 i)) (by decide +kernel))
    (leaf i 117 (pick _ (lt128 i)) (by decide +kernel))
    (leaf i 118 (pick _ (lt128 i)) (by decide +kernel))
    (leaf i 119 (pick _ (lt128 i)) (by decide +kernel))
    (leaf i 120 (pick _ (lt128 i)) (by decide +kernel))
    (leaf i 121 (pick _ (lt128 i)) (by decide +kernel))
    (leaf i 122 (pick _ (lt128 i)) (by decide +kernel))
    (leaf i 123 (pick _ (lt128 i)) (by decide +kernel))
    (leaf i 124 (pick _ (lt128 i)) (by decide +kernel))
    (leaf i 125 (pick _ (lt128 i)) (by decide +kernel))
    (leaf i 126 (pick _ (lt128 i)) (by decide +kernel))
    (leaf i 127 (pick _ (lt128 i)) (by decide +kernel))
    (i / 128 % 128) (lt128 _)

theorem piece1 (i : ℕ) : lit0t1_1 i = (half (128 * 1 + i / 128 % 128)).getD (i % 128) 0#16 :=
  each (P := fun r v => v = (half (128 * 1 + r)).getD (i % 128) 0#16)
    (leaf i 128 (pick _ (lt128 i)) (by decide +kernel))
    (leaf i 129 (pick _ (lt128 i)) (by decide +kernel))
    (leaf i 130 (pick _ (lt128 i)) (by decide +kernel))
    (leaf i 131 (pick _ (lt128 i)) (by decide +kernel))
    (leaf i 132 (pick _ (lt128 i)) (by decide +kernel))
    (leaf i 133 (pick _ (lt128 i)) (by decide +kernel))
    (leaf i 134 (pick _ (lt128 i)) (by decide +kernel))
    (leaf i 135 (pick _ (lt128 i)) (by decide +kernel))
    (leaf i 136 (pick _ (lt128 i)) (by decide +kernel))
    (leaf i 137 (pick _ (lt128 i)) (by decide +kernel))
    (leaf i 138 (pick _ (lt128 i)) (by decide +kernel))
    (leaf i 139 (pick _ (lt128 i)) (by decide +kernel))
    (leaf i 140 (pick _ (lt128 i)) (by decide +kernel))
    (leaf i 141 (pick _ (lt128 i)) (by decide +kernel))
    (leaf i 142 (pick _ (lt128 i)) (by decide +kernel))
    (leaf i 143 (pick _ (lt128 i)) (by decide +kernel))
    (leaf i 144 (pick _ (lt128 i)) (by decide +kernel))
    (leaf i 145 (pick _ (lt128 i)) (by decide +kernel))
    (leaf i 146 (pick _ (lt128 i)) (by decide +kernel))
    (leaf i 147 (pick _ (lt128 i)) (by decide +kernel))
    (leaf i 148 (pick _ (lt128 i)) (by decide +kernel))
    (leaf i 149 (pick _ (lt128 i)) (by decide +kernel))
    (leaf i 150 (pick _ (lt128 i)) (by decide +kernel))
    (leaf i 151 (pick _ (lt128 i)) (by decide +kernel))
    (leaf i 152 (pick _ (lt128 i)) (by decide +kernel))
    (leaf i 153 (pick _ (lt128 i)) (by decide +kernel))
    (leaf i 154 (pick _ (lt128 i)) (by decide +kernel))
    (leaf i 155 (pick _ (lt128 i)) (by decide +kernel))
    (leaf i 156 (pick _ (lt128 i)) (by decide +kernel))
    (leaf i 157 (pick _ (lt128 i)) (by decide +kernel))
    (leaf i 158 (pick _ (lt128 i)) (by decide +kernel))
    (leaf i 159 (pick _ (lt128 i)) (by decide +kernel))
    (leaf i 160 (pick _ (lt128 i)) (by decide +kernel))
    (leaf i 161 (pick _ (lt128 i)) (by decide +kernel))
    (leaf i 162 (pick _ (lt128 i)) (by decide +kernel))
    (leaf i 163 (pick _ (lt128 i)) (by decide +kernel))
    (leaf i 164 (pick _ (lt128 i)) (by decide +kernel))
    (leaf i 165 (pick _ (lt128 i)) (by decide +kernel))
    (leaf i 166 (pick _ (lt128 i)) (by decide +kernel))
    (leaf i 167 (pick _ (lt128 i)) (by decide +kernel))
    (leaf i 168 (pick _ (lt128 i)) (by decide +kernel))
    (leaf i 169 (pick _ (lt128 i)) (by decide +kernel))
    (leaf i 170 (pick _ (lt128 i)) (by decide +kernel))
    (leaf i 171 (pick _ (lt128 i)) (by decide +kernel))
    (leaf i 172 (pick _ (lt128 i)) (by decide +kernel))
    (leaf i 173 (pick _ (lt128 i)) (by decide +kernel))
    (leaf i 174 (pick _ (lt128 i)) (by decide +kernel))
    (leaf i 175 (pick _ (lt128 i)) (by decide +kernel))
    (leaf i 176 (pick _ (lt128 i)) (by decide +kernel))
    (leaf i 177 (pick _ (lt128 i)) (by decide +kernel))
    (leaf i 178 (pick _ (lt128 i)) (by decide +kernel))
    (leaf i 179 (pick _ (lt128 i)) (by decide +kernel))
    (leaf i 180 (pick _ (lt128 i)) (by decide +kernel))
    (leaf i 181 (pick _ (lt128 i)) (by decide +kernel))
    (leaf i 182 (pick _ (lt128 i)) (by decide +kernel))
    (leaf i 183 (pick _ (lt128 i)) (by decide +kernel))
    (leaf i 184 (pick _ (lt128 i)) (by decide +kernel))
    (leaf i 185 (pick _ (lt128 i)) (by decide +kernel))
    (leaf i 186 (pick _ (lt128 i)) (by decide +kernel))
    (leaf i 187 (pick _ (lt128 i)) (by decide +kernel))
    (leaf i 188 (pick _ (lt128 i)) (by decide +kernel))
    (leaf i 189 (pick _ (lt128 i)) (by decide +kernel))
    (leaf i 190 (pick _ (lt128 i)) (by decide +kernel))
    (leaf i 191 (pick _ (lt128 i)) (by decide +kernel))
    (leaf i 192 (pick _ (lt128 i)) (by decide +kernel))
    (leaf i 193 (pick _ (lt128 i)) (by decide +kernel))
    (leaf i 194 (pick _ (lt128 i)) (by decide +kernel))
    (leaf i 195 (pick _ (lt128 i)) (by decide +kernel))
    (leaf i 196 (pick _ (lt128 i)) (by decide +kernel))
    (leaf i 197 (pick _ (lt128 i)) (by decide +kernel))
    (leaf i 198 (pick _ (lt128 i)) (by decide +kernel))
    (leaf i 199 (pick _ (lt128 i)) (by decide +kernel))
    (leaf i 200 (pick _ (lt128 i)) (by decide +kernel))
    (leaf i 201 (pick _ (lt128 i)) (by decide +kernel))
    (leaf i 202 (pick _ (lt128 i)) (by decide +kernel))
    (leaf i 203 (pick _ (lt128 i)) (by decide +kernel))
    (leaf i 204 (pick _ (lt128 i)) (by decide +kernel))
    (leaf i 205 (pick _ (lt128 i)) (by decide +kernel))
    (leaf i 206 (pick _ (lt128 i)) (by decide +kernel))
    (leaf i 207 (pick _ (lt128 i)) (by decide +kernel))
    (leaf i 208 (pick _ (lt128 i)) (by decide +kernel))
    (leaf i 209 (pick _ (lt128 i)) (by decide +kernel))
    (leaf i 210 (pick _ (lt128 i)) (by decide +kernel))
    (leaf i 211 (pick _ (lt128 i)) (by decide +kernel))
    (leaf i 212 (pick _ (lt128 i)) (by decide +kernel))
    (leaf i 213 (pick _ (lt128 i)) (by decide +kernel))
    (leaf i 214 (pick _ (lt128 i)) (by decide +kernel))
    (leaf i 215 (pick _ (lt128 i)) (by decide +kernel))
    (leaf i 216 (pick _ (lt128 i)) (by decide +kernel))
    (leaf i 217 (pick _ (lt128 i)) (by decide +kernel))
    (leaf i 218 (pick _ (lt128 i)) (by decide +kernel))
    (leaf i 219 (pick _ (lt128 i)) (by decide +kernel))
    (leaf i 220 (pick _ (lt128 i)) (by decide +kernel))
    (leaf i 221 (pick _ (lt128 i)) (by decide +kernel))
    (leaf i 222 (pick _ (lt128 i)) (by decide +kernel))
    (leaf i 223 (pick _ (lt128 i)) (by decide +kernel))
    (leaf i 224 (pick _ (lt128 i)) (by decide +kernel))
    (leaf i 225 (pick _ (lt128 i)) (by decide +kernel))
    (leaf i 226 (pick _ (lt128 i)) (by decide +kernel))
    (leaf i 227 (pick _ (lt128 i)) (by decide +kernel))
    (leaf i 228 (pick _ (lt128 i)) (by decide +kernel))
    (leaf i 229 (pick _ (lt128 i)) (by decide +kernel))
    (leaf i 230 (pick _ (lt128 i)) (by decide +kernel))
    (leaf i 231 (pick _ (lt128 i)) (by decide +kernel))
    (leaf i 232 (pick _ (lt128 i)) (by decide +kernel))
    (leaf i 233 (pick _ (lt128 i)) (by decide +kernel))
    (leaf i 234 (pick _ (lt128 i)) (by decide +kernel))
    (leaf i 235 (pick _ (lt128 i)) (by decide +kernel))
    (leaf i 236 (pick _ (lt128 i)) (by decide +kernel))
    (leaf i 237 (pick _ (lt128 i)) (by decide +kernel))
    (leaf i 238 (pick _ (lt128 i)) (by decide +kernel))
    (leaf i 239 (pick _ (lt128 i)) (by decide +kernel))
    (leaf i 240 (pick _ (lt128 i)) (by decide +kernel))
    (leaf i 241 (pick _ (lt128 i)) (by decide +kernel))
    (leaf i 242 (pick _ (lt128 i)) (by decide +kernel))
    (leaf i 243 (pick _ (lt128 i)) (by decide +kernel))
    (leaf i 244 (pick _ (lt128 i)) (by decide +kernel))
    (leaf i 245 (pick _ (lt128 i)) (by decide +kernel))
    (leaf i 246 (pick _ (lt128 i)) (by decide +kernel))
    (leaf i 247 (pick _ (lt128 i)) (by decide +kernel))
    (leaf i 248 (pick _ (lt128 i)) (by decide +kernel))
    (leaf i 249 (pick _ (lt128 i)) (by decide +kernel))
    (leaf i 250 (pick _ (lt128 i)) (by decide +kernel))
    (leaf i 251 (pick _ (lt128 i)) (by decide +kernel))
    (leaf i 252 (pick _ (lt128 i)) (by decide +kernel))
    (leaf i 253 (pick _ (lt128 i)) (by decide +kernel))
    (leaf i 254 (pick _ (lt128 i)) (by decide +kernel))
    (leaf i 255 (pick _ (lt128 i)) (by decide +kernel))
    (i / 128 % 128) (lt128 _)

theorem piece2 (i : ℕ) : lit0t1_2 i = (half (128 * 2 + i / 128 % 128)).getD (i % 128) 0#16 :=
  each (P := fun r v => v = (half (128 * 2 + r)).getD (i % 128) 0#16)
    (leaf i 256 (pick _ (lt128 i)) (by decide +kernel))
    (leaf i 257 (pick _ (lt128 i)) (by decide +kernel))
    (leaf i 258 (pick _ (lt128 i)) (by decide +kernel))
    (leaf i 259 (pick _ (lt128 i)) (by decide +kernel))
    (leaf i 260 (pick _ (lt128 i)) (by decide +kernel))
    (leaf i 261 (pick _ (lt128 i)) (by decide +kernel))
    (leaf i 262 (pick _ (lt128 i)) (by decide +kernel))
    (leaf i 263 (pick _ (lt128 i)) (by decide +kernel))
    (leaf i 264 (pick _ (lt128 i)) (by decide +kernel))
    (leaf i 265 (pick _ (lt128 i)) (by decide +kernel))
    (leaf i 266 (pick _ (lt128 i)) (by decide +kernel))
    (leaf i 267 (pick _ (lt128 i)) (by decide +kernel))
    (leaf i 268 (pick _ (lt128 i)) (by decide +kernel))
    (leaf i 269 (pick _ (lt128 i)) (by decide +kernel))
    (leaf i 270 (pick _ (lt128 i)) (by decide +kernel))
    (leaf i 271 (pick _ (lt128 i)) (by decide +kernel))
    (leaf i 272 (pick _ (lt128 i)) (by decide +kernel))
    (leaf i 273 (pick _ (lt128 i)) (by decide +kernel))
    (leaf i 274 (pick _ (lt128 i)) (by decide +kernel))
    (leaf i 275 (pick _ (lt128 i)) (by decide +kernel))
    (leaf i 276 (pick _ (lt128 i)) (by decide +kernel))
    (leaf i 277 (pick _ (lt128 i)) (by decide +kernel))
    (leaf i 278 (pick _ (lt128 i)) (by decide +kernel))
    (leaf i 279 (pick _ (lt128 i)) (by decide +kernel))
    (leaf i 280 (pick _ (lt128 i)) (by decide +kernel))
    (leaf i 281 (pick _ (lt128 i)) (by decide +kernel))
    (leaf i 282 (pick _ (lt128 i)) (by decide +kernel))
    (leaf i 283 (pick _ (lt128 i)) (by decide +kernel))
    (leaf i 284 (pick _ (lt128 i)) (by decide +kernel))
    (leaf i 285 (pick _ (lt128 i)) (by decide +kernel))
    (leaf i 286 (pick _ (lt128 i)) (by decide +kernel))
    (leaf i 287 (pick _ (lt128 i)) (by decide +kernel))
    (leaf i 288 (pick _ (lt128 i)) (by decide +kernel))
    (leaf i 289 (pick _ (lt128 i)) (by decide +kernel))
    (leaf i 290 (pick _ (lt128 i)) (by decide +kernel))
    (leaf i 291 (pick _ (lt128 i)) (by decide +kernel))
    (leaf i 292 (pick _ (lt128 i)) (by decide +kernel))
    (leaf i 293 (pick _ (lt128 i)) (by decide +kernel))
    (leaf i 294 (pick _ (lt128 i)) (by decide +kernel))
    (leaf i 295 (pick _ (lt128 i)) (by decide +kernel))
    (leaf i 296 (pick _ (lt128 i)) (by decide +kernel))
    (leaf i 297 (pick _ (lt128 i)) (by decide +kernel))
    (leaf i 298 (pick _ (lt128 i)) (by decide +kernel))
    (leaf i 299 (pick _ (lt128 i)) (by decide +kernel))
    (leaf i 300 (pick _ (lt128 i)) (by decide +kernel))
    (leaf i 301 (pick _ (lt128 i)) (by decide +kernel))
    (leaf i 302 (pick _ (lt128 i)) (by decide +kernel))
    (leaf i 303 (pick _ (lt128 i)) (by decide +kernel))
    (leaf i 304 (pick _ (lt128 i)) (by decide +kernel))
    (leaf i 305 (pick _ (lt128 i)) (by decide +kernel))
    (leaf i 306 (pick _ (lt128 i)) (by decide +kernel))
    (leaf i 307 (pick _ (lt128 i)) (by decide +kernel))
    (leaf i 308 (pick _ (lt128 i)) (by decide +kernel))
    (leaf i 309 (pick _ (lt128 i)) (by decide +kernel))
    (leaf i 310 (pick _ (lt128 i)) (by decide +kernel))
    (leaf i 311 (pick _ (lt128 i)) (by decide +kernel))
    (leaf i 312 (pick _ (lt128 i)) (by decide +kernel))
    (leaf i 313 (pick _ (lt128 i)) (by decide +kernel))
    (leaf i 314 (pick _ (lt128 i)) (by decide +kernel))
    (leaf i 315 (pick _ (lt128 i)) (by decide +kernel))
    (leaf i 316 (pick _ (lt128 i)) (by decide +kernel))
    (leaf i 317 (pick _ (lt128 i)) (by decide +kernel))
    (leaf i 318 (pick _ (lt128 i)) (by decide +kernel))
    (leaf i 319 (pick _ (lt128 i)) (by decide +kernel))
    (leaf i 320 (pick _ (lt128 i)) (by decide +kernel))
    (leaf i 321 (pick _ (lt128 i)) (by decide +kernel))
    (leaf i 322 (pick _ (lt128 i)) (by decide +kernel))
    (leaf i 323 (pick _ (lt128 i)) (by decide +kernel))
    (leaf i 324 (pick _ (lt128 i)) (by decide +kernel))
    (leaf i 325 (pick _ (lt128 i)) (by decide +kernel))
    (leaf i 326 (pick _ (lt128 i)) (by decide +kernel))
    (leaf i 327 (pick _ (lt128 i)) (by decide +kernel))
    (leaf i 328 (pick _ (lt128 i)) (by decide +kernel))
    (leaf i 329 (pick _ (lt128 i)) (by decide +kernel))
    (leaf i 330 (pick _ (lt128 i)) (by decide +kernel))
    (leaf i 331 (pick _ (lt128 i)) (by decide +kernel))
    (leaf i 332 (pick _ (lt128 i)) (by decide +kernel))
    (leaf i 333 (pick _ (lt128 i)) (by decide +kernel))
    (leaf i 334 (pick _ (lt128 i)) (by decide +kernel))
    (leaf i 335 (pick _ (lt128 i)) (by decide +kernel))
    (leaf i 336 (pick _ (lt128 i)) (by decide +kernel))
    (leaf i 337 (pick _ (lt128 i)) (by decide +kernel))
    (leaf i 338 (pick _ (lt128 i)) (by decide +kernel))
    (leaf i 339 (pick _ (lt128 i)) (by decide +kernel))
    (leaf i 340 (pick _ (lt128 i)) (by decide +kernel))
    (leaf i 341 (pick _ (lt128 i)) (by decide +kernel))
    (leaf i 342 (pick _ (lt128 i)) (by decide +kernel))
    (leaf i 343 (pick _ (lt128 i)) (by decide +kernel))
    (leaf i 344 (pick _ (lt128 i)) (by decide +kernel))
    (leaf i 345 (pick _ (lt128 i)) (by decide +kernel))
    (leaf i 346 (pick _ (lt128 i)) (by decide +kernel))
    (leaf i 347 (pick _ (lt128 i)) (by decide +kernel))
    (leaf i 348 (pick _ (lt128 i)) (by decide +kernel))
    (leaf i 349 (pick _ (lt128 i)) (by decide +kernel))
    (leaf i 350 (pick _ (lt128 i)) (by decide +kernel))
    (leaf i 351 (pick _ (lt128 i)) (by decide +kernel))
    (leaf i 352 (pick _ (lt128 i)) (by decide +kernel))
    (leaf i 353 (pick _ (lt128 i)) (by decide +kernel))
    (leaf i 354 (pick _ (lt128 i)) (by decide +kernel))
    (leaf i 355 (pick _ (lt128 i)) (by decide +kernel))
    (leaf i 356 (pick _ (lt128 i)) (by decide +kernel))
    (leaf i 357 (pick _ (lt128 i)) (by decide +kernel))
    (leaf i 358 (pick _ (lt128 i)) (by decide +kernel))
    (leaf i 359 (pick _ (lt128 i)) (by decide +kernel))
    (leaf i 360 (pick _ (lt128 i)) (by decide +kernel))
    (leaf i 361 (pick _ (lt128 i)) (by decide +kernel))
    (leaf i 362 (pick _ (lt128 i)) (by decide +kernel))
    (leaf i 363 (pick _ (lt128 i)) (by decide +kernel))
    (leaf i 364 (pick _ (lt128 i)) (by decide +kernel))
    (leaf i 365 (pick _ (lt128 i)) (by decide +kernel))
    (leaf i 366 (pick _ (lt128 i)) (by decide +kernel))
    (leaf i 367 (pick _ (lt128 i)) (by decide +kernel))
    (leaf i 368 (pick _ (lt128 i)) (by decide +kernel))
    (leaf i 369 (pick _ (lt128 i)) (by decide +kernel))
    (leaf i 370 (pick _ (lt128 i)) (by decide +kernel))
    (leaf i 371 (pick _ (lt128 i)) (by decide +kernel))
    (leaf i 372 (pick _ (lt128 i)) (by decide +kernel))
    (leaf i 373 (pick _ (lt128 i)) (by decide +kernel))
    (leaf i 374 (pick _ (lt128 i)) (by decide +kernel))
    (leaf i 375 (pick _ (lt128 i)) (by decide +kernel))
    (leaf i 376 (pick _ (lt128 i)) (by decide +kernel))
    (leaf i 377 (pick _ (lt128 i)) (by decide +kernel))
    (leaf i 378 (pick _ (lt128 i)) (by decide +kernel))
    (leaf i 379 (pick _ (lt128 i)) (by decide +kernel))
    (leaf i 380 (pick _ (lt128 i)) (by decide +kernel))
    (leaf i 381 (pick _ (lt128 i)) (by decide +kernel))
    (leaf i 382 (pick _ (lt128 i)) (by decide +kernel))
    (leaf i 383 (pick _ (lt128 i)) (by decide +kernel))
    (i / 128 % 128) (lt128 _)

theorem piece3 (i : ℕ) : lit0t1_3 i = (half (128 * 3 + i / 128 % 128)).getD (i % 128) 0#16 :=
  each (P := fun r v => v = (half (128 * 3 + r)).getD (i % 128) 0#16)
    (leaf i 384 (pick _ (lt128 i)) (by decide +kernel))
    (leaf i 385 (pick _ (lt128 i)) (by decide +kernel))
    (leaf i 386 (pick _ (lt128 i)) (by decide +kernel))
    (leaf i 387 (pick _ (lt128 i)) (by decide +kernel))
    (leaf i 388 (pick _ (lt128 i)) (by decide +kernel))
    (leaf i 389 (pick _ (lt128 i)) (by decide +kernel))
    (leaf i 390 (pick _ (lt128 i)) (by decide +kernel))
    (leaf i 391 (pick _ (lt128 i)) (by decide +kernel))
    (leaf i 392 (pick _ (lt128 i)) (by decide +kernel))
    (leaf i 393 (pick _ (lt128 i)) (by decide +kernel))
    (leaf i 394 (pick _ (lt128 i)) (by decide +kernel))
    (leaf i 395 (pick _ (lt128 i)) (by decide +kernel))
    (leaf i 396 (pick _ (lt128 i)) (by decide +kernel))
    (leaf i 397 (pick _ (lt128 i)) (by decide +kernel))
    (leaf i 398 (pick _ (lt128 i)) (by decide +kernel))
    (leaf i 399 (pick _ (lt128 i)) (by decide +kernel))
    (leaf i 400 (pick _ (lt128 i)) (by decide +kernel))
    (leaf i 401 (pick _ (lt128 i)) (by decide +kernel))
    (leaf i 402 (pick _ (lt128 i)) (by decide +kernel))
    (leaf i 403 (pick _ (lt128 i)) (by decide +kernel))
    (leaf i 404 (pick _ (lt128 i)) (by decide +kernel))
    (leaf i 405 (pick _ (lt128 i)) (by decide +kernel))
    (leaf i 406 (pick _ (lt128 i)) (by decide +kernel))
    (leaf i 407 (pick _ (lt128 i)) (by decide +kernel))
    (leaf i 408 (pick _ (lt128 i)) (by decide +kernel))
    (leaf i 409 (pick _ (lt128 i)) (by decide +kernel))
    (leaf i 410 (pick _ (lt128 i)) (by decide +kernel))
    (leaf i 411 (pick _ (lt128 i)) (by decide +kernel))
    (leaf i 412 (pick _ (lt128 i)) (by decide +kernel))
    (leaf i 413 (pick _ (lt128 i)) (by decide +kernel))
    (leaf i 414 (pick _ (lt128 i)) (by decide +kernel))
    (leaf i 415 (pick _ (lt128 i)) (by decide +kernel))
    (leaf i 416 (pick _ (lt128 i)) (by decide +kernel))
    (leaf i 417 (pick _ (lt128 i)) (by decide +kernel))
    (leaf i 418 (pick _ (lt128 i)) (by decide +kernel))
    (leaf i 419 (pick _ (lt128 i)) (by decide +kernel))
    (leaf i 420 (pick _ (lt128 i)) (by decide +kernel))
    (leaf i 421 (pick _ (lt128 i)) (by decide +kernel))
    (leaf i 422 (pick _ (lt128 i)) (by decide +kernel))
    (leaf i 423 (pick _ (lt128 i)) (by decide +kernel))
    (leaf i 424 (pick _ (lt128 i)) (by decide +kernel))
    (leaf i 425 (pick _ (lt128 i)) (by decide +kernel))
    (leaf i 426 (pick _ (lt128 i)) (by decide +kernel))
    (leaf i 427 (pick _ (lt128 i)) (by decide +kernel))
    (leaf i 428 (pick _ (lt128 i)) (by decide +kernel))
    (leaf i 429 (pick _ (lt128 i)) (by decide +kernel))
    (leaf i 430 (pick _ (lt128 i)) (by decide +kernel))
    (leaf i 431 (pick _ (lt128 i)) (by decide +kernel))
    (leaf i 432 (pick _ (lt128 i)) (by decide +kernel))
    (leaf i 433 (pick _ (lt128 i)) (by decide +kernel))
    (leaf i 434 (pick _ (lt128 i)) (by decide +kernel))
    (leaf i 435 (pick _ (lt128 i)) (by decide +kernel))
    (leaf i 436 (pick _ (lt128 i)) (by decide +kernel))
    (leaf i 437 (pick _ (lt128 i)) (by decide +kernel))
    (leaf i 438 (pick _ (lt128 i)) (by decide +kernel))
    (leaf i 439 (pick _ (lt128 i)) (by decide +kernel))
    (leaf i 440 (pick _ (lt128 i)) (by decide +kernel))
    (leaf i 441 (pick _ (lt128 i)) (by decide +kernel))
    (leaf i 442 (pick _ (lt128 i)) (by decide +kernel))
    (leaf i 443 (pick _ (lt128 i)) (by decide +kernel))
    (leaf i 444 (pick _ (lt128 i)) (by decide +kernel))
    (leaf i 445 (pick _ (lt128 i)) (by decide +kernel))
    (leaf i 446 (pick _ (lt128 i)) (by decide +kernel))
    (leaf i 447 (pick _ (lt128 i)) (by decide +kernel))
    (leaf i 448 (pick _ (lt128 i)) (by decide +kernel))
    (leaf i 449 (pick _ (lt128 i)) (by decide +kernel))
    (leaf i 450 (pick _ (lt128 i)) (by decide +kernel))
    (leaf i 451 (pick _ (lt128 i)) (by decide +kernel))
    (leaf i 452 (pick _ (lt128 i)) (by decide +kernel))
    (leaf i 453 (pick _ (lt128 i)) (by decide +kernel))
    (leaf i 454 (pick _ (lt128 i)) (by decide +kernel))
    (leaf i 455 (pick _ (lt128 i)) (by decide +kernel))
    (leaf i 456 (pick _ (lt128 i)) (by decide +kernel))
    (leaf i 457 (pick _ (lt128 i)) (by decide +kernel))
    (leaf i 458 (pick _ (lt128 i)) (by decide +kernel))
    (leaf i 459 (pick _ (lt128 i)) (by decide +kernel))
    (leaf i 460 (pick _ (lt128 i)) (by decide +kernel))
    (leaf i 461 (pick _ (lt128 i)) (by decide +kernel))
    (leaf i 462 (pick _ (lt128 i)) (by decide +kernel))
    (leaf i 463 (pick _ (lt128 i)) (by decide +kernel))
    (leaf i 464 (pick _ (lt128 i)) (by decide +kernel))
    (leaf i 465 (pick _ (lt128 i)) (by decide +kernel))
    (leaf i 466 (pick _ (lt128 i)) (by decide +kernel))
    (leaf i 467 (pick _ (lt128 i)) (by decide +kernel))
    (leaf i 468 (pick _ (lt128 i)) (by decide +kernel))
    (leaf i 469 (pick _ (lt128 i)) (by decide +kernel))
    (leaf i 470 (pick _ (lt128 i)) (by decide +kernel))
    (leaf i 471 (pick _ (lt128 i)) (by decide +kernel))
    (leaf i 472 (pick _ (lt128 i)) (by decide +kernel))
    (leaf i 473 (pick _ (lt128 i)) (by decide +kernel))
    (leaf i 474 (pick _ (lt128 i)) (by decide +kernel))
    (leaf i 475 (pick _ (lt128 i)) (by decide +kernel))
    (leaf i 476 (pick _ (lt128 i)) (by decide +kernel))
    (leaf i 477 (pick _ (lt128 i)) (by decide +kernel))
    (leaf i 478 (pick _ (lt128 i)) (by decide +kernel))
    (leaf i 479 (pick _ (lt128 i)) (by decide +kernel))
    (leaf i 480 (pick _ (lt128 i)) (by decide +kernel))
    (leaf i 481 (pick _ (lt128 i)) (by decide +kernel))
    (leaf i 482 (pick _ (lt128 i)) (by decide +kernel))
    (leaf i 483 (pick _ (lt128 i)) (by decide +kernel))
    (leaf i 484 (pick _ (lt128 i)) (by decide +kernel))
    (leaf i 485 (pick _ (lt128 i)) (by decide +kernel))
    (leaf i 486 (pick _ (lt128 i)) (by decide +kernel))
    (leaf i 487 (pick _ (lt128 i)) (by decide +kernel))
    (leaf i 488 (pick _ (lt128 i)) (by decide +kernel))
    (leaf i 489 (pick _ (lt128 i)) (by decide +kernel))
    (leaf i 490 (pick _ (lt128 i)) (by decide +kernel))
    (leaf i 491 (pick _ (lt128 i)) (by decide +kernel))
    (leaf i 492 (pick _ (lt128 i)) (by decide +kernel))
    (leaf i 493 (pick _ (lt128 i)) (by decide +kernel))
    (leaf i 494 (pick _ (lt128 i)) (by decide +kernel))
    (leaf i 495 (pick _ (lt128 i)) (by decide +kernel))
    (leaf i 496 (pick _ (lt128 i)) (by decide +kernel))
    (leaf i 497 (pick _ (lt128 i)) (by decide +kernel))
    (leaf i 498 (pick _ (lt128 i)) (by decide +kernel))
    (leaf i 499 (pick _ (lt128 i)) (by decide +kernel))
    (leaf i 500 (pick _ (lt128 i)) (by decide +kernel))
    (leaf i 501 (pick _ (lt128 i)) (by decide +kernel))
    (leaf i 502 (pick _ (lt128 i)) (by decide +kernel))
    (leaf i 503 (pick _ (lt128 i)) (by decide +kernel))
    (leaf i 504 (pick _ (lt128 i)) (by decide +kernel))
    (leaf i 505 (pick _ (lt128 i)) (by decide +kernel))
    (leaf i 506 (pick _ (lt128 i)) (by decide +kernel))
    (leaf i 507 (pick _ (lt128 i)) (by decide +kernel))
    (leaf i 508 (pick _ (lt128 i)) (by decide +kernel))
    (leaf i 509 (pick _ (lt128 i)) (by decide +kernel))
    (leaf i 510 (pick _ (lt128 i)) (by decide +kernel))
    (leaf i 511 (pick _ (lt128 i)) (by decide +kernel))
    (i / 128 % 128) (lt128 _)

theorem half_at (n k : ℕ) (h : k < 128) : (half n).getD k 0#16 = if n / 2 = 2 * k + n % 2 then 0x3F80#16 else 0#16 := by
  unfold half
  simp [List.getD_eq_getElem?_getD, h]

/-- An entry of the whole table. -/
theorem lit_half (i : ℕ) (h : i < 65536) : lit0t i = (half (i / 128)).getD (i % 128) 0#16 := by
  rcases (by omega : i / 16384 = 0 ∨ i / 16384 = 1 ∨ i / 16384 = 2 ∨ i / 16384 = 3) with e | e | e | e
  · unfold lit0t; rw [e]
    exact (piece0 i).trans (by rw [show 128 * 0 + i / 128 % 128 = i / 128 by omega])
  · unfold lit0t; rw [e]
    exact (piece1 i).trans (by rw [show 128 * 1 + i / 128 % 128 = i / 128 by omega])
  · unfold lit0t; rw [e]
    exact (piece2 i).trans (by rw [show 128 * 2 + i / 128 % 128 = i / 128 by omega])
  · unfold lit0t; rw [e]
    exact (piece3 i).trans (by rw [show 128 * 3 + i / 128 % 128 = i / 128 by omega])

/-- The matrix has a one where its column gathers the row. -/
theorem lit_table (r q : Fin 256) : lit0t (256 * r.val + q.val) = if r.val = 2 * (q.val % 128) + q.val / 128 then 0x3F80#16 else 0#16 := by
  rw [lit_half _ (by omega), half_at _ _ (Nat.mod_lt _ (by decide))]
  refine if_congr ?_ rfl rfl
  rw [show (256 * r.val + q.val) / 128 = 2 * r.val + q.val / 128 by omega, show (256 * r.val + q.val) % 128 = q.val % 128 by omega]
  have : q.val / 128 < 2 := by omega
  omega

end Cert.KernelIdeal.Hand
-- ==== Proof.ExpHost.lean ====
/- What the experts' launch is handed, over the arguments. -/
module

public import proofs.«01_k».proof.Proof.ExpOk
public import proofs.«01_k».proof.Proof.ExpLit
public import Idealize.ShloMosaic.Lib.Pointwise

@[expose] public section

set_option maxRecDepth 1000000

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-- What the launch is handed: the gathering matrix and the biases. -/
abbrev gm : FVec Ideal S256x256 .bf16 := V m c main_cst
abbrev gb : FVec Ideal S32x1x2048 .f32 := V m c main_v3
abbrev db : FVec Ideal S32x1x1024 .f32 := V m c main_v4

theorem cst_val : gm m c = fun i => FloatOps.ofBits .bf16 (lit0 (S256x256.rowMajor i)) := by
  show V m c main_cst = _
  simp only [gm, gb, db, V, hostOps0, List.flatten_cons, List.flatten_nil, List.append_nil, List.cons_append, List.nil_append, StableHlo.after_cons, StableHlo.after_nil]
  after_results_simp
  rfl

/-- Its entry: a one where the column gathers the row. -/
theorem cst_at (l q : Fin 256) : (gm m c (ix2 l q) : EReal) = if l.val = 2 * (q.val % 128) + q.val / 128 then 1 else 0 := by
  rw [cst_val]
  have e : (S256x256.rowMajor (ix2 l q)).val = 256 * l.val + q.val := by
    rw [Shape.rowMajor_val_two]; show l.val * 256 + q.val = _; omega
  have e2 : lit0 (S256x256.rowMajor (ix2 l q)) = lit0t (256 * l.val + q.val) := congrArg lit0t e
  show Ideal.ofBits .bf16 (lit0 (S256x256.rowMajor (ix2 l q))) = _
  rw [e2, lit_table]
  split
  · show Ideal.ofBits .bf16 0x3F80#16 = ((1 : ℝ) : EReal); simp [Ideal.ofBits, Ideal.ieee]; rw [← EReal.coe_mul]; norm_num
  · show Ideal.ofBits .bf16 0#16 = ((0 : ℝ) : EReal); simp [Ideal.ofBits, Ideal.ieee]

/-- The first biases reordered: the even columns, then the odd ones. -/
def parts (x : FVec Ideal S32x2048 .f32) : FVec Ideal S32x1x2048 .f32 :=
  shapeCast S32x1x2048 (concatenate S32x2048 1 [⟨S32x1024, Host.slice S32x1024 ![0, 0] ![1, 2] x slicesBy_S32x2048_S32x1024_0s1_0s2⟩,
    ⟨S32x1024, Host.slice S32x1024 ![0, 1] ![1, 2] x slicesBy_S32x2048_S32x1024_0s1_1s2⟩] concatenates_S32x1024_S32x1024_S32x2048_d1) shapeCasts_S32x2048_S32x1x2048

theorem parts_at (x : FVec Ideal S32x2048 .f32) (e : Fin 32) (z : Fin 2048) : parts x (ix3 e 0 z) = x (ix2 e ⟨2 * (z.val % 1024) + z.val / 1024, by omega⟩) := by
  unfold parts
  pointwise
  split_ifs with h <;> first
  | exact congrArg x (congrArg (ix2 e) (Fin.ext (show 2 * z.val = 2 * (z.val % 1024) + z.val / 1024 by omega)))
  | exact congrArg x (congrArg (ix2 e) (Fin.ext (show 1 + 2 * (z.val - 1024) = 2 * (z.val % 1024) + z.val / 1024 by omega)))

theorem gb_val : gb m c = parts (m ((c : Thread nD τ).loc main_arg4)) := by
  show V m c main_v3 = _
  simp only [V, hostOps0, List.flatten_cons, List.flatten_nil, List.append_nil, List.cons_append, List.nil_append, StableHlo.after_cons, StableHlo.after_nil]
  after_results_simp
  rfl

theorem v3_at (e : Fin 32) (z : Fin 2048) : gb m c (ix3 e 0 z)
    = (m ((c : Thread nD τ).loc main_arg4) : Vec Ideal S32x2048 .f32) (ix2 e ⟨2 * (z.val % 1024) + z.val / 1024, by omega⟩) := by
  rw [gb_val]; exact parts_at _ e z

/-- The second biases. -/
theorem v4_at (e : Fin 32) (d : Fin 1024) : db m c (ix3 e 0 d)
    = (m ((c : Thread nD τ).loc main_arg6) : Vec Ideal S32x1024 .f32) (ix2 e d) := by
  simp only [gm, gb, db, V, hostOps0, List.flatten_cons, List.flatten_nil, List.append_nil, List.cons_append, List.nil_append, StableHlo.after_cons, StableHlo.after_nil]
  after_results_simp
  pointwise

end Cert.KernelIdeal.Hand

end
-- ==== Proof.ExpSpec.lean ====
/- The experts' output for one row of a block, over the exact reals. -/
module

public import Idealize.ShloMosaic.Lib.Pipeline.ValueKit

@[expose] public section

noncomputable section

namespace Cert.Exp

open Idealize.ShloMosaic
open scoped BigOperators

/-- The even columns hold the gates, the odd ones the values they scale. -/
def even (f : Fin 1024) : Fin 2048 := ⟨2 * f.val, by omega⟩
def odd (f : Fin 1024) : Fin 2048 := ⟨2 * f.val + 1, by omega⟩

/-- The first product of a row with its bias. -/
def hid (x : Fin 1024 → EReal) (w : Fin 1024 → Fin 2048 → EReal) (b : Fin 2048 → EReal) (z : Fin 2048) : EReal :=
  (∑ k, x k * w k z) + b z

/-- A gate, from above. -/
def gate (g : EReal) : EReal := min g (Ideal.ofBits FTy.f32 0x40E00000#32)

/-- The activation of a gate and a value. -/
def act (g u : EReal) : EReal :=
  (min (Ideal.ofBits FTy.f32 0x40E00000#32) (max (Ideal.ofBits FTy.f32 0xC0E00000#32) u) + Ideal.ofBits FTy.f32 0x3F800000#32)
    * (gate g * Ideal.div (Ideal.ofBits FTy.f32 0x3F800000#32)
        (Ideal.ofBits FTy.f32 0x3F800000#32 + Ideal.exp (-(Ideal.ofBits FTy.f32 0x3FD9DB23#32 * gate g))))

/-- A row's output. -/
def yout (x : Fin 1024 → EReal) (w : Fin 1024 → Fin 2048 → EReal) (b : Fin 2048 → EReal) (w2 : Fin 1024 → Fin 1024 → EReal) (b2 : Fin 1024 → EReal)
    (d : Fin 1024) : EReal :=
  (∑ f, act (hid x w b (even f)) (hid x w b (odd f)) * w2 f d) + b2 d

end Cert.Exp

end
-- ==== Proof.ExpAt.lean ====
/- The experts' block at an index, over the exact reals. -/
module

public import proofs.«01_k».proof.Proof.ExpVal
public import proofs.«01_k».proof.Proof.ExpSpec

@[expose] public section

set_option maxRecDepth 1000000

noncomputable section

namespace Cert.KernelIdeal.Hand

open Idealize.ShloMosaic Idealize.ShloMosaic.TcCoe Idealize.ShloMosaic.Tactic
open Cert.KernelIdeal.Gen Cert.Exp
open scoped BigOperators

theorem upv_at (x : Vec Ideal S256x1024 .f32) (bg : Vec Ideal S1x1x2048 .f32) (g : Vec Ideal S1024x2048 .bf16) (r : Fin 256) (z : Fin 2048) :
    upv x bg g (ix2 r z) = (∑ k : Fin 1024, (x (ix2 r k) : EReal) * (g (ix2 k z) : EReal)) + (bg (ix3 0 0 z) : EReal) := by
  unfold upv
  pointwise

theorem actv_at (u : FVec Ideal S256x2048 .f32) (r : Fin 256) (f : Fin 1024) :
    actv u (ix2 r f) = act (u (ix2 r ⟨f.val, by omega⟩)) (u (ix2 r ⟨1024 + f.val, by omega⟩)) := by
  unfold actv gatev
  pointwise
  unfold act gate
  rw [← zero_sub]
  simp
  done

theorem outv_at (x : Vec Ideal S256x1024 .f32) (bg : Vec Ideal S1x1x2048 .f32) (bd : Vec Ideal S1x1x1024 .f32) (g : Vec Ideal S1024x2048 .bf16)
    (d : Vec Ideal S1024x1024 .bf16) (r : Fin 256) (j : Fin 1024) :
    outv x bg bd g d (ix2 r j) = (∑ f : Fin 1024, (actv (upv x bg g) (ix2 r f) : EReal) * (d (ix2 f j) : EReal)) + (bd (ix3 0 0 j) : EReal) := by
  unfold outv
  generalize actv (upv x bg g) = a
  pointwise

theorem dnw_at (w : Vec Ideal S1x1024x1024 .f32) (f j : Fin 1024) : dnw w (ix2 f j) = (w (ix3 0 f j) : EReal) := by
  unfold dnw
  pointwise

theorem dein_at (w : Vec Ideal S1x1024x2048 .f32) (p : Vec Ideal S256x256 .bf16) (j : Fin 8) (k : Fin 1024) (q : Fin 256) :
    dein w p j (ix2 k q) = ∑ l : Fin 256, (w (ix3 0 k ⟨256 * j.val + l.val, by omega⟩) : EReal) * (p (ix2 l q) : EReal) := by
  unfold dein
  have e : ∀ l : Fin 256, (cols w j : FVec Ideal S1024x256 .f32) (ix2 k l) = w (ix3 0 k ⟨256 * j.val + l.val, by omega⟩) := fun l => rfl
  generalize cols w j = v at e
  pointwise
  simp only [← e]

/-- The kept weights are the even columns, then the odd ones. -/
theorem guw_at (w : Vec Ideal S1x1024x2048 .f32) (p : Vec Ideal S256x256 .bf16)
    (hp : ∀ l q : Fin 256, (p (ix2 l q) : EReal) = if l.val = 2 * (q.val % 128) + q.val / 128 then 1 else 0) (k : Fin 1024) (z : Fin 2048) :
    guw w p (ix2 k z) = (w (ix3 0 k ⟨2 * (z.val % 1024) + z.val / 1024, by omega⟩) : EReal) := by
  refine (dein_at w p ⟨z.val % 1024 / 128, by omega⟩ k ⟨z.val / 1024 * 128 + z.val % 128, by omega⟩).trans ?_
  refine (Finset.sum_eq_single (⟨2 * (z.val % 128) + z.val / 1024, by omega⟩ : Fin 256) (fun l _ hl => ?_) (fun h => absurd (Finset.mem_univ _) h)).trans ?_
  · rw [hp, if_neg, mul_zero]
    intro h
    refine hl (Fin.ext ?_)
    simp only at h ⊢
    omega
  · rw [hp, if_pos (by simp only; omega), mul_one]
    congr 2
    refine Fin.ext ?_
    simp only
    omega

/-- A row of a block, from the blocks its weights are in. -/
theorem block_at (x : Vec Ideal S256x1024 .f32) (w1 : Vec Ideal S1x1024x2048 .f32) (bg : Vec Ideal S1x1x2048 .f32) (w2 : Vec Ideal S1x1024x1024 .f32)
    (bd : Vec Ideal S1x1x1024 .f32) (p : Vec Ideal S256x256 .bf16)
    (hp : ∀ l q : Fin 256, (p (ix2 l q) : EReal) = if l.val = 2 * (q.val % 128) + q.val / 128 then 1 else 0)
    (b : Fin 2048 → EReal) (hb : ∀ z : Fin 2048, (bg (ix3 0 0 z) : EReal) = b ⟨2 * (z.val % 1024) + z.val / 1024, by omega⟩) (r : Fin 256) (j : Fin 1024) :
    outv x bg bd (guw w1 p) (dnw w2) (ix2 r j)
      = yout (fun k => x (ix2 r k)) (fun k z => w1 (ix3 0 k z)) b (fun f d => w2 (ix3 0 f d)) (fun d => bd (ix3 0 0 d)) j := by
  have e : ∀ z : Fin 2048, upv x bg (guw w1 p) (ix2 r z)
      = hid (fun k => x (ix2 r k)) (fun k z => w1 (ix3 0 k z)) b ⟨2 * (z.val % 1024) + z.val / 1024, by omega⟩ := fun z => by
    rw [upv_at, hb]
    simp only [guw_at w1 p hp]
    rfl
  rw [outv_at]
  unfold yout
  congr 1
  refine Finset.sum_congr rfl fun f _ => ?_
  rw [actv_at, e, e, dnw_at]
  congr 2
  · congr 1
    refine Fin.ext ?_
    simp only [even]
    omega
  · congr 1
    refine Fin.ext ?_
    simp only [odd]
    omega

end Cert.KernelIdeal.Hand

end
-- ==== Proof.ExpFinal.lean ====
/- The experts' result array at the end. -/
module

public import proofs.«01_k».proof.Proof.ExpHost
public import proofs.«01_k».proof.Proof.ExpAt

@[expose] public section

set_option maxRecDepth 16384

noncomputable section

namespace Cert.KernelIdeal.Hand

open Idealize.ShloMosaic Idealize.ShloMosaic.TcCoe Idealize.ShloMosaic.Tactic
open Cert.KernelIdeal.Gen Cert.Exp

variable (m : (ℓ : Loc nD τ sig) → Buf (Elt Ideal) ℓ) (c : Dev nD)

/-- The arguments. -/
abbrev xs : FVec Ideal S57344x1024 .f32 := m ((c : Thread nD τ).loc main_arg2)
abbrev w1s : FVec Ideal S32x1024x2048 .f32 := m ((c : Thread nD τ).loc main_arg3)
abbrev b1s : FVec Ideal S32x2048 .f32 := m ((c : Thread nD τ).loc main_arg4)
abbrev w2s : FVec Ideal S32x1024x1024 .f32 := m ((c : Thread nD τ).loc main_arg5)
abbrev b2s : FVec Ideal S32x1024 .f32 := m ((c : Thread nD τ).loc main_arg6)

/-- A row of the result: its block's expert applied to its row, where the block is in use. -/
def rowv (e : Fin 32) (g : Prop) [Decidable g] (r : Fin 57344) (d : Fin 1024) : EReal :=
  if g then yout (fun k => xs m c (ix2 r k)) (fun k z => w1s m c (ix3 e k z)) (fun z => b1s m c (ix2 e z)) (fun f d => w2s m c (ix3 e f d)) (fun d => b2s m c (ix2 e d)) d
  else Ideal.ofBits FTy.f32 0x00000000#32

/-- A block is in use. -/
abbrev inUse (t : Fin 224) : Prop := IntOp.cmpi .slt (BitVec.ofNat 32 t.val) (nb m) = 1#1

variable (hO : Ok m)

include hO in
theorem be_all (t : Fin 224) : (be m t).toNat < 32 := be_lt m hO ⟨t.val, Nat.lt_of_lt_of_eq t.isLt N_0.symm⟩

/-- The result. -/
def finalArr : FVec Ideal S57344x1024 .f32 := fun y =>
  rowv m c ⟨(be m ⟨(y 0).val / 256, by have := (y 0).isLt; change (y 0).val < 57344 at this; omega⟩).toNat, be_all m hO _⟩
    (inUse m ⟨(y 0).val / 256, by have := (y 0).isLt; change (y 0).val < 57344 at this; omega⟩) (y 0) (y 1)

/-- The branch taken is the block's being in use. -/
theorem cond2_at (t : Fin (cfgM m hO).N) : k0_cond2 (grid0.coords t) (used c (tbl m 1)) = 1#1 ↔ inUse m (pt m hO t) := by
  have e : used c (tbl m 1) = nb m := by
    unfold used nb
    refine congrArg (tbl m 1 : IVec S1 32) (funext fun a => Fin.ext ?_)
    match a with
    | ⟨0, _⟩ => rfl
  rw [e]
  unfold inUse
  have ec : (grid0.coords t 0).val = (pt m hO t).val := coord t
  unfold k0_cond2
  dsimp only
  rw [ec]
  show Scalar.cmpi .ne (Scalar.extui (IntOp.cmpi .slt (BitVec.ofNat 32 (pt m hO t).val) (nb m)) : BitVec 32) 0#32 = 1#1 ↔ _
  generalize IntOp.cmpi .slt (BitVec.ofNat 32 (pt m hO t).val) (nb m) = z
  revert z; decide

/-- The input's block where the block is in use. -/
theorem blk0 (hn : 1 ≤ (nb m).toInt) (t : Fin (cfgM m hO).N) (hu : inUse m (pt m hO t)) (r : Fin 256) (k : Fin 1024) :
    iblk m hO c 0 t (ix2 r k) = xs m c (ix2 ⟨256 * t.val + r.val, by have := Nat.lt_of_lt_of_eq t.isLt N_0; omega⟩ k) := by
  have ht : t.val < 224 := Nat.lt_of_lt_of_eq t.isLt N_0
  have hx : ((cfgM m hO).win 0).index t = ![t.val, 0] := by
    refine (ix_0 m t hn).trans ?_
    have e : min t.val ((nb m).toInt - 1).toNat = t.val := by
      have h1 : (BitVec.ofNat 32 t.val).slt (nb m) = true := by
        have hu : (BitVec.ofBool ((BitVec.ofNat 32 t.val).slt (nb m))) = 1#1 := hu
        revert hu; cases (BitVec.ofNat 32 t.val).slt (nb m) <;> decide
      rw [BitVec.slt_eq_decide, decide_eq_true_eq, BitVec.toInt_eq_toNat_of_lt (by rw [BitVec.toNat_ofNat]; omega), BitVec.toNat_ofNat] at h1
      omega
    rw [e]
  blk_ext [iblk, V_main_arg2, hx]

/-- A point's block of the result. -/
theorem resAt_at (hn : 1 ≤ (nb m).toInt) (t : Fin (cfgM m hO).N) (r : Fin 256) (d : Fin 1024) :
    resAt m hO c t (ix2 r d) = rowv m c ⟨(be m (pt m hO t)).toNat, be_lt m hO t⟩ (inUse m (pt m hO t))
      ⟨256 * t.val + r.val, by have := Nat.lt_of_lt_of_eq t.isLt N_0; omega⟩ d := by
  unfold resAt rowv
  by_cases hu : inUse m (pt m hO t)
  · rw [if_pos ((cond2_at m c hO t).mpr hu), if_pos hu]
    refine (block_at _ _ _ _ _ _ (fun l q => ?_) (fun z => b1s m c (ix2 ⟨(be m (pt m hO t)).toNat, be_lt m hO t⟩ z)) (fun z => ?_) r d).trans ?_
    · exact (blk5 m hO c t _).trans (cst_at m c l q)
    · exact (blk2 m hO c t _).trans (v3_at m c _ z)
    · congr 1
      · funext k; exact blk0 m c hO hn t hu r k
      · funext k z; exact blk1 m hO c t _
      · funext f d; exact blk3 m hO c t _
      · funext d; exact (blk4 m hO c t _).trans (v4_at m c _ d)
  · rw [if_neg (fun h => hu ((cond2_at m c hO t).mp h)), if_neg hu]
    rfl

theorem final_of (hn : 1 ≤ (nb m).toInt) (t : Fin (cfgM m hO).N) (y : S256x1024.Idx) (i : S57344x1024.Idx) (h0 : (i 0).val = t.val * 256 + (y 0).val)
    (h1 : (i 1).val = (y 1).val) : resAt m hO c t y = finalArr m c hO i := by
  have hy : (y 0).val < 256 := (y 0).isLt
  have e : y = ix2 (y 0) (y 1) := by funext a; fin_cases a <;> rfl
  rw [e]
  refine (resAt_at m c hO hn t (y 0) (y 1)).trans ?_
  unfold finalArr
  have ep : pt m hO t = ⟨(i 0).val / 256, by have := (i 0).isLt; change (i 0).val < 57344 at this; omega⟩ := Fin.ext (by show t.val = (i 0).val / 256; omega)
  have er : (⟨256 * t.val + (y 0).val, by have := Nat.lt_of_lt_of_eq t.isLt N_0; omega⟩ : Fin 57344) = i 0 := Fin.ext (by show 256 * t.val + (y 0).val = (i 0).val; omega)
  have ed : (y 1 : Fin 1024) = i 1 := Fin.ext h1.symm
  have key : ∀ (p q : Fin 224) (hp : (be m p).toNat < 32) (hq : (be m q).toNat < 32) (r r' : Fin 57344) (d d' : Fin 1024), p = q → r = r' → d = d' →
      rowv m c ⟨(be m p).toNat, hp⟩ (inUse m p) r d = rowv m c ⟨(be m q).toNat, hq⟩ (inUse m q) r' d' := by
    rintro p _ _ _ r _ d _ rfl rfl rfl; rfl
  exact key _ _ _ _ _ _ _ _ ep er ed

/-- The points' blocks cover the result. -/
theorem covers_6 : ((cfgM m hO).win 6).Covers := by
  refine ⟨by show ∀ a : Fin 2, 0 < (![256, 1024] : Fin 2 → ℕ) a; decide, fun β => ?_⟩
  have hb : (β (0 : Fin 2)).val < 224 := Nat.lt_of_lt_of_eq (β (0 : Fin 2)).isLt (by show (57344 + 256 - 1) / 256 = 224; decide)
  have hb1 : (β (1 : Fin 2)).val < 1 := Nat.lt_of_lt_of_eq (β (1 : Fin 2)).isLt (by show (1024 + 1024 - 1) / 1024 = 1; decide)
  refine ⟨⟨(β (0 : Fin 2)).val, Nat.lt_of_lt_of_eq hb N_0.symm⟩, flushes (adm m hO) _, fun a => ⟨?_, Or.inl ?_⟩⟩
  · rw [index_6]
    match a with
    | ⟨0, _⟩ => rfl
    | ⟨1, _⟩ => show 0 = (β (1 : Fin 2)).val; omega
  · match a with
    | ⟨0, _⟩ => rfl
    | ⟨1, _⟩ => rfl

theorem final_arr (hn : 1 ≤ (nb m).toInt) : (dats m hO 0 c).arrAt 6 (cfgM m hO).N = finalArr m c hO := by
  refine (dats m hO 0 c).arrAt_eq_of_covers 6 _ (covers_6 m hO) fun t _ y => ?_
  blk_simp
  rw [after_6]
  refine final_of m c hO hn t y _ ?_ ?_
  · blk_simp [index_6 m hO t]
  · blk_simp [index_6 m hO t]

end Cert.KernelIdeal.Hand

end
-- ==== Proof.ExpPre.lean ====
/- What the tables' ranges say of their entries. -/
module

public import proofs.«01_k».proof.Proof.Gen.Pre_tables_in_range
public import Idealize.ShloMosaic.Lib.Pointwise
public import Idealize.ShloMosaic.Lib.Pipeline.ValueKit

@[expose] public section

noncomputable section

namespace Cert.Pre_tables_in_range.Hand

open Idealize.ShloMosaic Idealize.ShloMosaic.TcCoe Idealize.ShloMosaic.Tactic
open Cert.Pre_tables_in_range

variable {F : FTy → Type} [FloatOps F]

theorem of_bool {b : Bool} (h : BitVec.ofBool b = 1#1) : b = true := by revert h; cases b <;> decide

/-- Every block's expert is one of the 32, and at least one block is in use. -/
theorem bounds (x0 : IVec S224 32) (x1 : IVec S1 32) (x2 : FVec F S57344x1024 .f32) (x3 : FVec F S32x1024x2048 .f32) (x4 : FVec F S32x2048 .f32)
    (x5 : FVec F S32x1024x1024 .f32) (x6 : FVec F S32x1024 .f32) (h : (fn (F := F) x0 x1 x2 x3 x4 x5 x6).1 = (fun _ => 1#1)
      ∧ (fn (F := F) x0 x1 x2 x3 x4 x5 x6).2.1 = (fun _ => 1#1) ∧ (fn (F := F) x0 x1 x2 x3 x4 x5 x6).2.2 = (fun _ => 1#1)) :
    (∀ t : Fin 224, (x0 (ix1 t)).toNat < 32) ∧ 1 ≤ (x1 (ix1 0)).toInt := by
  obtain ⟨h0, h1, h2⟩ := h
  constructor
  · intro t
    have a : BitVec.ofBool ((0#32).sle (x0 (ix1 t))) = 1#1 := congrFun h0 (ix1 t)
    have b : BitVec.ofBool ((x0 (ix1 t)).slt 32#32) = 1#1 := congrFun h1 (ix1 t)
    have a := of_bool a
    have b := of_bool b
    generalize x0 (ix1 t) = s at *
    rw [BitVec.sle_eq_decide, decide_eq_true_eq, show (0#32 : BitVec 32).toInt = 0 from by decide] at a
    rw [BitVec.slt_eq_decide, decide_eq_true_eq, show (32#32 : BitVec 32).toInt = 32 from by decide] at b
    have e := BitVec.toInt_eq_toNat_cond s
    have l := s.isLt
    split at e <;> omega
  · have a : BitVec.ofBool ((1#32).sle (x1 (ix1 0))) = 1#1 := congrFun h2 (ix1 0)
    have a := of_bool a
    rw [BitVec.sle_eq_decide, decide_eq_true_eq, show (1#32 : BitVec 32).toInt = 1 from by decide] at a
    exact a

end Cert.Pre_tables_in_range.Hand

end
-- ==== Proof.ExpRef.lean ====
/- The experts' reference at an index, over the exact reals. -/
module

public import proofs.«01_k».proof.Proof.Gen.ReferenceIdeal.Read
public import proofs.«01_k».proof.Proof.ExpSpec

@[expose] public section

set_option maxRecDepth 100000

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read Cert.Exp
open scoped BigOperators

section Take
variable {α : Type}

/-- Whole entries of a rank-3 array taken at given places. -/
abbrev dims3 (A B : ℕ) (wf : GatherDims.WF ⟨3, ![32, A, B]⟩ ⟨2, ![224, 1]⟩ ⟨3, ![224, A, B]⟩ [1, 2] [0] [] [0] [] 1 ![1, A, B]) : GatherDims ⟨3, ![32, A, B]⟩ ⟨2, ![224, 1]⟩ ⟨3, ![224, A, B]⟩ where
  offsetDims := [1, 2]
  collapsedSliceDims := [0]
  operandBatchingDims := []
  startIndicesBatchingDims := []
  startIndexMap := [0]
  indexVectorDim := 1
  sliceSizes := ![1, A, B]
  wf := wf

theorem take3 {A B : ℕ} (wf : GatherDims.WF ⟨3, ![32, A, B]⟩ ⟨2, ![224, 1]⟩ ⟨3, ![224, A, B]⟩ [1, 2] [0] [] [0] [] 1 ![1, A, B])
    (x : (⟨3, ![32, A, B]⟩ : Shape).Idx → α) (idx : IVec ⟨2, ![224, 1]⟩ 32) (b : Fin 224) (p : Fin A) (q : Fin B) :
    Host.gather (dims3 A B wf) x idx (ix3 b p q) = x (ix3 ⟨min (idx (ix2 b 0)).toInt.toNat 31, by omega⟩ p q) := by
  unfold Host.gather
  congr 1
  funext a
  refine Fin.ext ?_
  show (dims3 A B wf).start (ix3 b p q) idx a + (dims3 A B wf).batchCoord (ix3 b p q) a + (dims3 A B wf).offCoord (ix3 b p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    have hsi : ∀ k, (dims3 A B wf).siIdx (ix3 b p q) k = ix2 b 0 := fun k => by
      funext e; refine Fin.ext ?_
      match e with
      | ⟨0, _⟩ => rfl
      | ⟨1, _⟩ => exact Nat.lt_one_iff.mp k.isLt
    exact congrArg (fun i => min (idx i).toInt.toNat 31) (hsi _)
  | ⟨1, _⟩ =>
    have hs : (dims3 A B wf).start (ix3 b p q) idx (1 : Fin 3) = 0 := by
      unfold GatherDims.start
      exact dif_neg (by simp)
    refine (congrArg (· + (dims3 A B wf).offCoord (ix3 b p q) (1 : Fin 3)) hs).trans ?_
    rw [Nat.zero_add]
    rfl
  | ⟨2, _⟩ =>
    have hs : (dims3 A B wf).start (ix3 b p q) idx (2 : Fin 3) = 0 := by
      unfold GatherDims.start
      exact dif_neg (by simp)
    refine (congrArg (· + (dims3 A B wf).offCoord (ix3 b p q) (2 : Fin 3)) hs).trans ?_
    rw [Nat.zero_add]
    rfl

/-- Whole entries of a rank-2 array taken at given places. -/
abbrev dims2 (A : ℕ) (wf : GatherDims.WF ⟨2, ![32, A]⟩ ⟨2, ![224, 1]⟩ ⟨2, ![224, A]⟩ [1] [0] [] [0] [] 1 ![1, A]) : GatherDims ⟨2, ![32, A]⟩ ⟨2, ![224, 1]⟩ ⟨2, ![224, A]⟩ where
  offsetDims := [1]
  collapsedSliceDims := [0]
  operandBatchingDims := []
  startIndicesBatchingDims := []
  startIndexMap := [0]
  indexVectorDim := 1
  sliceSizes := ![1, A]
  wf := wf

theorem take2 {A : ℕ} (wf : GatherDims.WF ⟨2, ![32, A]⟩ ⟨2, ![224, 1]⟩ ⟨2, ![224, A]⟩ [1] [0] [] [0] [] 1 ![1, A])
    (x : (⟨2, ![32, A]⟩ : Shape).Idx → α) (idx : IVec ⟨2, ![224, 1]⟩ 32) (b : Fin 224) (p : Fin A) :
    Host.gather (dims2 A wf) x idx (ix2 b p) = x (ix2 ⟨min (idx (ix2 b 0)).toInt.toNat 31, by omega⟩ p) := by
  unfold Host.gather
  congr 1
  funext a
  refine Fin.ext ?_
  show (dims2 A wf).start (ix2 b p) idx a + (dims2 A wf).batchCoord (ix2 b p) a + (dims2 A wf).offCoord (ix2 b p) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (by exact List.mem_singleton.mpr rfl)]
    have hsi : ∀ k, (dims2 A wf).siIdx (ix2 b p) k = ix2 b 0 := fun k => by
      funext e; refine Fin.ext ?_
      match e with
      | ⟨0, _⟩ => rfl
      | ⟨1, _⟩ => exact Nat.lt_one_iff.mp k.isLt
    exact congrArg (fun i => min (idx i).toInt.toNat 31) (hsi _)
  | ⟨1, _⟩ =>
    have hs : (dims2 A wf).start (ix2 b p) idx (1 : Fin 2) = 0 := by
      unfold GatherDims.start
      exact dif_neg (by simp)
    refine (congrArg (· + (dims2 A wf).offCoord (ix2 b p) (1 : Fin 2)) hs).trans ?_
    rw [Nat.zero_add]
    rfl

end Take

variable (x0 : IVec S224 32) (x1 : IVec S1 32) (x2 : FVec Ideal S57344x1024 .f32) (x3 : FVec Ideal S32x1024x2048 .f32) (x4 : FVec Ideal S32x2048 .f32)
  (x5 : FVec Ideal S32x1024x1024 .f32) (x6 : FVec Ideal S32x1024 .f32)

/-- A place counted from the end is not among those in range. -/
theorem place_word (w : BitVec 32) (h : w.toNat < 32) (z : BitVec 32) :
    Scalar.select (IntOp.cmpi .slt w 0#32) z w = w := by
  have e : IntOp.cmpi .slt w 0#32 = 0#1 := by
    simp only [IntOp.cmpi]
    rw [show w.slt 0#32 = false from by
      rw [BitVec.slt_eq_decide, decide_eq_false_iff_not]
      rw [BitVec.toInt_eq_toNat_of_lt (by omega)]
      simp]
    rfl
  rw [e]
  rfl

theorem place_nat (w : BitVec 32) (h : w.toNat < 32) : min w.toInt.toNat 31 = w.toNat := by
  rw [BitVec.toInt_eq_toNat_of_lt (by omega)]
  omega

variable (h : ∀ b : Fin 224, (x0 (ix1 b)).toNat < 32)

include h in
theorem v6_at (b : Fin 224) : val_main_v6 (F := Ideal) x0 (ix2 b 0) = x0 (ix1 b) := by
  rw [val_main_v6_apply, show idx_main_v6 (ix2 b 0) = ix1 b from eq_ix1 _, val_main_v5_apply, val_main_v2_apply, val_main_v1_apply]
  exact place_word _ (h b) _
include h in
theorem v14_at (b : Fin 224) : val_main_v14 (F := Ideal) x0 (ix2 b 0) = x0 (ix1 b) := by
  rw [val_main_v14_apply, show idx_main_v14 (ix2 b 0) = ix1 b from eq_ix1 _, val_main_v13_apply, val_main_v10_apply, val_main_v9_apply]
  exact place_word _ (h b) _
include h in
theorem v41_at (b : Fin 224) : val_main_v41 (F := Ideal) x0 (ix2 b 0) = x0 (ix1 b) := by
  rw [val_main_v41_apply, show idx_main_v41 (ix2 b 0) = ix1 b from eq_ix1 _, val_main_v40_apply, val_main_v37_apply, val_main_v36_apply]
  exact place_word _ (h b) _
include h in
theorem v49_at (b : Fin 224) : val_main_v49 (F := Ideal) x0 (ix2 b 0) = x0 (ix1 b) := by
  rw [val_main_v49_apply, show idx_main_v49 (ix2 b 0) = ix1 b from eq_ix1 _, val_main_v48_apply, val_main_v45_apply, val_main_v44_apply]
  exact place_word _ (h b) _

/-- A block's expert. -/
abbrev ex (b : Fin 224) : Fin 32 := ⟨(x0 (ix1 b)).toNat, h b⟩

theorem v7_at (b : Fin 224) (k : Fin 1024) (z : Fin 2048) : val_main_v7 (F := Ideal) x0 x3 (ix3 b k z) = x3 (ix3 (ex x0 h b) k z) := by
  refine (take3 _ x3 (val_main_v6 (F := Ideal) x0) b k z).trans (congrArg (fun e => x3 (ix3 e k z)) (Fin.ext ?_))
  show min (val_main_v6 (F := Ideal) x0 (ix2 b 0)).toInt.toNat 31 = _
  rw [v6_at x0 h, place_nat _ (h b)]
theorem v15_at (b : Fin 224) (z : Fin 2048) : val_main_v15 (F := Ideal) x0 x4 (ix2 b z) = x4 (ix2 (ex x0 h b) z) := by
  refine (take2 _ x4 (val_main_v14 (F := Ideal) x0) b z).trans (congrArg (fun e => x4 (ix2 e z)) (Fin.ext ?_))
  show min (val_main_v14 (F := Ideal) x0 (ix2 b 0)).toInt.toNat 31 = _
  rw [v14_at x0 h, place_nat _ (h b)]
theorem v42_at (b : Fin 224) (k d : Fin 1024) : val_main_v42 (F := Ideal) x0 x5 (ix3 b k d) = x5 (ix3 (ex x0 h b) k d) := by
  refine (take3 _ x5 (val_main_v41 (F := Ideal) x0) b k d).trans (congrArg (fun e => x5 (ix3 e k d)) (Fin.ext ?_))
  show min (val_main_v41 (F := Ideal) x0 (ix2 b 0)).toInt.toNat 31 = _
  rw [v41_at x0 h, place_nat _ (h b)]
theorem v50_at (b : Fin 224) (d : Fin 1024) : val_main_v50 (F := Ideal) x0 x6 (ix2 b d) = x6 (ix2 (ex x0 h b) d) := by
  refine (take2 _ x6 (val_main_v49 (F := Ideal) x0) b d).trans (congrArg (fun e => x6 (ix2 e d)) (Fin.ext ?_))
  show min (val_main_v49 (F := Ideal) x0 (ix2 b 0)).toInt.toNat 31 = _
  rw [v49_at x0 h, place_nat _ (h b)]

/-- A row of a block. -/
abbrev row (b : Fin 224) (r : Fin 256) : Fin 57344 := ⟨256 * b.val + r.val, by omega⟩

theorem v0_at (b : Fin 224) (r : Fin 256) (k : Fin 1024) : val_main_v0 (F := Ideal) x2 (ix3 b r k) = x2 (ix2 (row b r) k) := by
  refine (val_main_v0_apply (F := Ideal) x2 (ix3 b r k)).trans (congrArg x2 (funext fun a => Fin.ext ?_))
  match a with
  | ⟨0, _⟩ => show ((b.val * 256 + r.val) * 1024 + k.val) / 1024 = 256 * b.val + r.val; omega
  | ⟨1, _⟩ => show ((b.val * 256 + r.val) * 1024 + k.val) % 1024 = k.val; omega

/-- The first product at an index. -/
theorem v18_at (b : Fin 224) (r : Fin 256) (z : Fin 2048) : val_main_v18 (F := Ideal) x0 x2 x3 x4 (ix3 b r z)
    = hid (fun k => x2 (ix2 (row b r) k)) (fun k z => x3 (ix3 (ex x0 h b) k z)) (fun z => x4 (ix2 (ex x0 h b) z)) z := by
  rw [val_main_v18_apply, val_main_v8_apply, val_main_v17_apply, val_main_v16_apply]
  have el : ∀ k : Fin 1024, val_main_v0 (F := Ideal) x2 (lidx_main_v8 (ix3 b r z) k) = x2 (ix2 (row b r) k) := fun k =>
    (congrArg (val_main_v0 (F := Ideal) x2) (eq_ix3 (lidx_main_v8 (ix3 b r z) k))).trans (v0_at x2 b r k)
  have er : ∀ k : Fin 1024, val_main_v7 (F := Ideal) x0 x3 (ridx_main_v8 (ix3 b r z) k) = x3 (ix3 (ex x0 h b) k z) := fun k =>
    (congrArg (val_main_v7 (F := Ideal) x0 x3) (eq_ix3 (ridx_main_v8 (ix3 b r z) k))).trans (v7_at x0 x3 h b k z)
  have eb : val_main_v15 (F := Ideal) x0 x4 (idx_main_v16 (idx_main_v17 (ix3 b r z))) = x4 (ix2 (ex x0 h b) z) :=
    (congrArg (val_main_v15 (F := Ideal) x0 x4) (eq_ix2 (idx_main_v16 (idx_main_v17 (ix3 b r z))))).trans (v15_at x0 x4 h b z)
  simp only [el, er, eb]
  rfl

/-- The activations at an index. -/
theorem v35_at (b : Fin 224) (r : Fin 256) (f : Fin 1024) : val_main_v35 (F := Ideal) x0 x2 x3 x4 (ix3 b r f)
    = act (val_main_v18 (F := Ideal) x0 x2 x3 x4 (ix3 b r (even f))) (val_main_v18 (F := Ideal) x0 x2 x3 x4 (ix3 b r (odd f))) := by
  have eg : val_main_v19 (F := Ideal) x0 x2 x3 x4 (ix3 b r f) = val_main_v18 (F := Ideal) x0 x2 x3 x4 (ix3 b r (even f)) := by
    unfold val_main_v19
    generalize val_main_v18 (F := Ideal) x0 x2 x3 x4 = v
    pointwise
    rfl
  have eu : val_main_v22 (F := Ideal) x0 x2 x3 x4 (ix3 b r f) = val_main_v18 (F := Ideal) x0 x2 x3 x4 (ix3 b r (odd f)) := by
    unfold val_main_v22
    generalize val_main_v18 (F := Ideal) x0 x2 x3 x4 = v
    pointwise
    exact congrArg (fun z => v (ix3 b r z)) (Fin.ext (Nat.add_comm _ _))
  rw [← eg, ← eu]
  rfl

/-- A row's output in a block. -/
theorem v53_at (b : Fin 224) (r : Fin 256) (d : Fin 1024) : val_main_v53 (F := Ideal) x0 x2 x3 x4 x5 x6 (ix3 b r d)
    = yout (fun k => x2 (ix2 (row b r) k)) (fun k z => x3 (ix3 (ex x0 h b) k z)) (fun z => x4 (ix2 (ex x0 h b) z)) (fun f d => x5 (ix3 (ex x0 h b) f d))
        (fun d => x6 (ix2 (ex x0 h b) d)) d := by
  rw [val_main_v53_apply, val_main_v43_apply, val_main_v52_apply, val_main_v51_apply]
  have el : ∀ k : Fin 1024, val_main_v35 (F := Ideal) x0 x2 x3 x4 (lidx_main_v43 (ix3 b r d) k)
      = act (hid (fun k => x2 (ix2 (row b r) k)) (fun k z => x3 (ix3 (ex x0 h b) k z)) (fun z => x4 (ix2 (ex x0 h b) z)) (even k))
          (hid (fun k => x2 (ix2 (row b r) k)) (fun k z => x3 (ix3 (ex x0 h b) k z)) (fun z => x4 (ix2 (ex x0 h b) z)) (odd k)) := fun k =>
    (congrArg (val_main_v35 (F := Ideal) x0 x2 x3 x4) (eq_ix3 (lidx_main_v43 (ix3 b r d) k))).trans
      ((v35_at x0 x2 x3 x4 b r k).trans (by rw [v18_at x0 x2 x3 x4 h, v18_at x0 x2 x3 x4 h]))
  have er : ∀ k : Fin 1024, val_main_v42 (F := Ideal) x0 x5 (ridx_main_v43 (ix3 b r d) k) = x5 (ix3 (ex x0 h b) k d) := fun k =>
    (congrArg (val_main_v42 (F := Ideal) x0 x5) (eq_ix3 (ridx_main_v43 (ix3 b r d) k))).trans (v42_at x0 x5 h b k d)
  have eb : val_main_v50 (F := Ideal) x0 x6 (idx_main_v51 (idx_main_v52 (ix3 b r d))) = x6 (ix2 (ex x0 h b) d) :=
    (congrArg (val_main_v50 (F := Ideal) x0 x6) (eq_ix2 (idx_main_v51 (idx_main_v52 (ix3 b r d))))).trans (v50_at x0 x6 h b d)
  simp only [el, er, eb]
  rfl

/-- Whether a block is in use. -/
theorem v58_at (b : Fin 224) : val_main_v58 (F := Ideal) x1 (ix3 b 0 0) = IntOp.cmpi .slt (BitVec.ofNat 32 b.val) (x1 (ix1 0)) := by
  refine (val_main_v58_apply (F := Ideal) x1 (ix3 b 0 0)).trans ?_
  have e : val_main_v55 (F := Ideal) x1 (idx_main_v56 (idx_main_v58 (ix3 b 0 0))) = x1 (ix1 0) := by
    unfold val_main_v55
    have h1 : ∀ k : Fin S1.numel, k.val < 1 := fun k => k.isLt
    have h2 : ∀ k : Fin S_.numel, k.val < 1 := fun k => k.isLt
    exact shapeCast_apply x1 shapeCasts_S1_S_ _ (ix1 0) (by rw [Nat.lt_one_iff.mp (h1 _), Nat.lt_one_iff.mp (h2 _)])
  rw [val_main_v57_apply, val_main_v56_apply, e]
  rfl

/-- The reference at an index: a row of its block, nothing past the blocks in use. -/
theorem result_at (b : Fin 224) (r : Fin 256) (d : Fin 1024) : val_main_v60 (F := Ideal) x0 x1 x2 x3 x4 x5 x6 (ix2 (row b r) d)
    = if IntOp.cmpi .slt (BitVec.ofNat 32 b.val) (x1 (ix1 0)) = 1#1 then
        yout (fun k => x2 (ix2 (row b r) k)) (fun k z => x3 (ix3 (ex x0 h b) k z)) (fun z => x4 (ix2 (ex x0 h b) z)) (fun f d => x5 (ix3 (ex x0 h b) f d))
          (fun d => x6 (ix2 (ex x0 h b) d)) d
      else Ideal.ofBits FTy.f32 0x00000000#32 := by
  have e : idx_main_v60 (ix2 (row b r) d) = ix3 b r d := by
    funext a; refine Fin.ext ?_
    match a with
    | ⟨0, _⟩ => show ((256 * b.val + r.val) * 1024 + d.val) / 262144 = b.val; omega
    | ⟨1, _⟩ => show ((256 * b.val + r.val) * 1024 + d.val) / 1024 % 256 = r.val; omega
    | ⟨2, _⟩ => show ((256 * b.val + r.val) * 1024 + d.val) % 1024 = d.val; omega
  rw [val_main_v60_apply, e, val_main_v59_apply, v53_at x0 x2 x3 x4 x5 x6 h]
  have ew : val_main_call1_v1 (F := Ideal) x1 (ix3 b r d) = IntOp.cmpi .slt (BitVec.ofNat 32 b.val) (x1 (ix1 0)) := by
    refine (val_main_call1_v1_apply (F := Ideal) x1 (ix3 b r d)).trans ?_
    refine Eq.trans (congrArg (val_main_v58 (F := Ideal) x1) ?_) (v58_at x1 b)
    exact eq_ix3 _
  rw [ew]
  rfl

end Cert.ReferenceIdeal.Hand

end
-- ==== Proof.ProjSpec.lean ====
/- The normalized, modulated and projected row, as a function of the rows' entries. -/
module

public import Idealize.ShloMosaic.Lib.Pipeline.ValueKit

@[expose] public section

noncomputable section

namespace Cert.Proj

open Idealize.ShloMosaic
open scoped BigOperators

/-- A row over its root mean square, times the gains, scaled and shifted. -/
def act (x g sh sc : Fin 1024 → EReal) (k : Fin 1024) : EReal :=
  x k * Ideal.rsqrt (Ideal.div (∑ k', x k' * x k') (Ideal.ofBits FTy.f32 1149239296#32) + Ideal.ofBits FTy.f32 897988541#32) * g k
    * (1 + sc k) + sh k

/-- Its product with one column of weights. -/
def proj (x g sh sc w : Fin 1024 → EReal) : EReal := ∑ k, act x g sh sc k * w k

/-- Token `r`: a prompt's position, then a sample's. -/
def row (p : Fin 32 → Fin 256 → Fin 1024 → EReal) (q : Fin 4 → Fin 1024 → Fin 1024 → EReal) (r : Fin 12288) (k : Fin 1024) : EReal :=
  if h : r.val < 8192 then p ⟨r.val / 256, by omega⟩ ⟨r.val % 256, by omega⟩ k
  else q ⟨(r.val - 8192) / 1024, by omega⟩ ⟨(r.val - 8192) % 1024, by omega⟩ k

/-- Entry `n` of token `r`'s modulation: the prompts share one, each sample has its own. -/
def modn (p : Fin 6144 → EReal) (q : Fin 4 → Fin 6144 → EReal) (r : Fin 12288) (n : Fin 6144) : EReal :=
  if h : r.val < 8192 then p n else q ⟨(r.val - 8192) / 1024, by omega⟩ n

/-- Where the shift and the scale lie in a modulation. -/
def shAt (k : Fin 1024) : Fin 6144 := ⟨k.val, by omega⟩
def scAt (k : Fin 1024) : Fin 6144 := ⟨1024 + k.val, by omega⟩

/-- A column of the weights; past the last there are zeros. -/
def wcol (w : Fin 1024 → Fin 3616 → EReal) (n : ℕ) (k : Fin 1024) : EReal := if h : n < 3616 then w k ⟨n, h⟩ else 0

/-- The weights' column that lies at place `j` of the kernel's order. -/
def place (j : ℕ) : ℕ :=
  if j < 1024 then j else if j < 1536 then j + 16 else if j < 2048 then j + 1568 else if j < 3584 then j - 496
  else if j < 3600 then j - 2560 else if j < 3616 then j - 512 else 3616

/-- Column `n` of the projection of token `r`. -/
def out (x0 : Fin 32 → Fin 256 → Fin 1024 → EReal) (x1 : Fin 4 → Fin 1024 → Fin 1024 → EReal) (x2 : Fin 6144 → EReal)
    (x3 : Fin 4 → Fin 6144 → EReal) (x4 : Fin 1024 → EReal) (x5 : Fin 1024 → Fin 3616 → EReal) (r : Fin 12288) (n : ℕ) : EReal :=
  proj (row x0 x1 r) x4 (fun k => modn x2 x3 r (shAt k)) (fun k => modn x2 x3 r (scAt k)) (wcol x5 n)

theorem proj_zero (x g sh sc : Fin 1024 → EReal) (w : Fin 1024 → Fin 3616 → EReal) (n : ℕ) (h : 3616 ≤ n) : proj x g sh sc (wcol w n) = 0 := by
  unfold proj wcol
  exact Finset.sum_eq_zero fun k _ => by rw [dif_neg (by omega), mul_zero]

end Cert.Proj

end
-- ==== Proof.ProjKernel.lean ====
/- The projection kernel's result arrays, over its arguments. -/
module

public import proofs.«01_k».proof.Proof.Gen.Kernel2Ideal.Value
public import proofs.«01_k».proof.Proof.ProjSpec
public import Idealize.ShloMosaic.Lib.Pipeline.ValueKit

@[expose] public section

set_option maxRecDepth 1000000

noncomputable section

namespace Cert.Kernel2Ideal.Hand

open Idealize.ShloMosaic Idealize.ShloMosaic.TcCoe Idealize.ShloMosaic.Tactic
open Cert.Kernel2Ideal Cert.Kernel2Ideal.Gen Cert.Proj
open scoped BigOperators

/-- The kernel's product at an index. -/
theorem pay_at (P0 : Vec Ideal S256x1024 .f32) (P1 : Vec Ideal S1x1024 .f32) (P2 P3 : Vec Ideal S1x1x1024 .f32) (P4 : Vec Ideal S1024x3712 .bf16)
    (r : Fin 256) (j : Fin 3712) : k0_pay2 P0 P1 P2 P3 P4 (ix2 r j)
      = proj (fun k => P0 (ix2 r k)) (fun k => P1 (ix2 0 k)) (fun k => P3 (ix3 0 0 k)) (fun k => P2 (ix3 0 0 k)) (fun k => P4 (ix2 k j)) := by
  unfold k0_pay2
  pointwise
  rfl

variable (m : (ℓ : Loc nD τ sig) → Buf (Elt Ideal) ℓ) (c : Dev nD)

/-- The blocks of the windows at every grid point. -/
theorem idx : ∀ t : Fin cfg0.N, win0_0.index t = ![t.val, 0] ∧ win0_1.index t = ![(if t.val < 32 then 0 else 1 + (t.val - 32) / 4), 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The grid has forty-eight points. -/
theorem points (t : Fin cfg0.N) : t.val < 48 := t.isLt

/-- The columns of the projection's weights in the kernel's order. -/
def wperm (w : FVec Ideal S1024x3616 .f32) : FVec Ideal S1024x3712 .bf16 :=
  truncf .bf16 (concatenate S1024x3712 1 [⟨S1024x256, extractStridedSlice S1024x256 ![0, 0] w slices_S1024x3616_S1024x256_0_0⟩,
    ⟨S1024x256, extractStridedSlice S1024x256 ![0, 256] w slices_S1024x3616_S1024x256_0_256⟩,
    ⟨S1024x512, extractStridedSlice S1024x512 ![0, 512] w slices_S1024x3616_S1024x512_0_512⟩,
    ⟨S1024x512, extractStridedSlice S1024x512 ![0, 1040] w slices_S1024x3616_S1024x512_0_1040⟩,
    ⟨S1024x512, extractStridedSlice S1024x512 ![0, 3104] w slices_S1024x3616_S1024x512_0_3104⟩,
    ⟨S1024x1536, extractStridedSlice S1024x1536 ![0, 1552] w slices_S1024x3616_S1024x1536_0_1552⟩,
    ⟨S1024x16, extractStridedSlice S1024x16 ![0, 1024] w slices_S1024x3616_S1024x16_0_1024⟩,
    ⟨S1024x8, extractStridedSlice S1024x8 ![0, 3088] w slices_S1024x3616_S1024x8_0_3088⟩,
    ⟨S1024x8, extractStridedSlice S1024x8 ![0, 3096] w slices_S1024x3616_S1024x8_0_3096⟩,
    ⟨S1024x96, (broadcastInDim S1024x96 ![] bcast_S_S1024x96 (constant S_ .f32 0x00000000#32) : FVec Ideal S1024x96 .f32)⟩]
    concatenates_S1024x256_S1024x256_S1024x512_S1024x512_S1024x512_S1024x1536_S1024x16_S1024x8_S1024x8_S1024x96_S1024x3712_d1) bitsLt_bf16_f32

theorem v19_eq : V m c main_v19 = wperm (m ((c : Thread nD τ).loc main_arg5)) := by
  simp only [V, hostOps0, List.flatten_cons, List.flatten_nil, List.append_nil, List.cons_append, List.nil_append, StableHlo.after_cons, StableHlo.after_nil]
  after_results_simp
  rfl

set_option maxHeartbeats 1600000 in
theorem wperm_at (w : FVec Ideal S1024x3616 .f32) (k : Fin 1024) (j : Fin 3712) :
    wperm w (ix2 k j) = wcol (fun k n => w (ix2 k n)) (place j.val) k := by
  have e : ∀ (a : Fin 3616) (n : ℕ), a.val = n → w (ix2 k a) = wcol (fun k n => w (ix2 k n)) n k := by
    rintro a _ rfl; unfold wcol; rw [dif_pos a.isLt]
  unfold wperm
  pointwise
  split_ifs <;> first
    | (refine e _ _ ?_; unfold place; dsimp only; split_ifs <;> omega)
    | (unfold wcol; rw [dif_neg (by unfold place; split_ifs <;> omega)])

/-- The prompts' rows, then the samples'. -/
def rowsOf (p : FVec Ideal S32x256x1024 .f32) (q : FVec Ideal S4x1024x1024 .f32) : FVec Ideal S12288x1024 .f32 :=
  concatenate S12288x1024 0 [⟨S8192x1024, shapeCast S8192x1024 p shapeCasts_S32x256x1024_S8192x1024⟩,
    ⟨S4096x1024, shapeCast S4096x1024 q shapeCasts_S4x1024x1024_S4096x1024⟩] concatenates_S8192x1024_S4096x1024_S12288x1024_d0

theorem v7_eq : V m c main_v7 = rowsOf (m ((c : Thread nD τ).loc main_arg0)) (m ((c : Thread nD τ).loc main_arg1)) := by
  simp only [V, hostOps0, List.flatten_cons, List.flatten_nil, List.append_nil, List.cons_append, List.nil_append, StableHlo.after_cons, StableHlo.after_nil]
  after_results_simp
  rfl

theorem rowsOf_at (p : FVec Ideal S32x256x1024 .f32) (q : FVec Ideal S4x1024x1024 .f32) (r : Fin 12288) (k : Fin 1024) :
    rowsOf p q (ix2 r k) = row (fun a b d => p (ix3 a b d)) (fun a b d => q (ix3 a b d)) r k := by
  unfold rowsOf
  pointwise
  rfl

/-- The arguments' entries. -/
abbrev a0 : Fin 32 → Fin 256 → Fin 1024 → EReal := fun i j k => m ((c : Thread nD τ).loc main_arg0) (ix3 i j k)
abbrev a1 : Fin 4 → Fin 1024 → Fin 1024 → EReal := fun i j k => m ((c : Thread nD τ).loc main_arg1) (ix3 i j k)
abbrev a2 : Fin 6144 → EReal := fun i => m ((c : Thread nD τ).loc main_arg2) (ix1 i)
abbrev a3 : Fin 4 → Fin 6144 → EReal := fun i j => m ((c : Thread nD τ).loc main_arg3) (ix2 i j)
abbrev a4 : Fin 1024 → EReal := fun i => m ((c : Thread nD τ).loc main_arg4) (ix1 i)
abbrev a5 : Fin 1024 → Fin 3616 → EReal := fun i j => m ((c : Thread nD τ).loc main_arg5) (ix2 i j)

theorem mods_at (b : Fin 5) (q : Fin 8) (k : Fin 1024) : V m c main_v4 (ix3 b q k)
    = if h : q.val < 6 then if h' : b.val < 1 then a2 m c ⟨q.val * 1024 + k.val, by omega⟩ else a3 m c ⟨b.val - 1, by omega⟩ ⟨q.val * 1024 + k.val, by omega⟩
      else 0 := by
  simp only [V, hostOps0, List.flatten_cons, List.flatten_nil, List.append_nil, List.cons_append, List.nil_append, StableHlo.after_cons, StableHlo.after_nil]
  after_results_simp
  pointwise
  after_results_simp
  pointwise

theorem gain_at (z : Fin 1) (k : Fin 1024) : V m c main_v20 (ix2 z k) = a4 m c k := by
  simp only [V, hostOps0, List.flatten_cons, List.flatten_nil, List.append_nil, List.cons_append, List.nil_append, StableHlo.after_cons, StableHlo.after_nil]
  after_results_simp
  pointwise

/-- Row `r` of block `t`. -/
def tok (t : Fin cfg0.N) (r : Fin 256) : Fin 12288 := ⟨256 * t.val + r.val, by have := points t; omega⟩

/-- Block `t`'s modulation. -/
def grp (t : Fin cfg0.N) : Fin 5 := ⟨if t.val < 32 then 0 else 1 + (t.val - 32) / 4, by have := points t; split_ifs <;> omega⟩

theorem blk0 (t : Fin cfg0.N) (r : Fin 256) (k : Fin 1024) : iblk m c 0 t (ix2 r k) = V m c main_v7 (ix2 (tok t r) k) := by
  unfold tok; blk_ext [iblk, idx t]

theorem blk1 (t : Fin cfg0.N) (q : Fin 8) (k : Fin 1024) : iblk m c 1 t (ix3 0 q k) = V m c main_v4 (ix3 (grp t) q k) := by
  unfold grp; blk_ext [iblk, idx t]

theorem blk2 (t : Fin cfg0.N) (k : Fin 1024) : iblk m c 2 t (ix2 0 k) = V m c main_v20 (ix2 0 k) := by blk_ext [iblk, idx t]

theorem blk3 (t : Fin cfg0.N) (k : Fin 1024) (j : Fin 3712) : iblk m c 3 t (ix2 k j) = V m c main_v19 (ix2 k j) := by blk_ext [iblk, idx t]

theorem mod_tok (t : Fin cfg0.N) (r : Fin 256) (q : Fin 8) (n : Fin 6144) (k : Fin 1024) (hq : q.val < 6) (hn : n.val = q.val * 1024 + k.val) :
    V m c main_v4 (ix3 (grp t) q k) = modn (a2 m c) (a3 m c) (tok t r) n := by
  have ht := points t
  have en : n = ⟨q.val * 1024 + k.val, by omega⟩ := Fin.ext hn
  rw [mods_at, dif_pos hq, en]
  unfold modn
  by_cases h : t.val < 32
  · rw [dif_pos (show (grp t).val < 1 by unfold grp; dsimp only; rw [if_pos h]; omega),
      dif_pos (show (tok t r).val < 8192 by unfold tok; dsimp only; omega)]
  · rw [dif_neg (show ¬ (grp t).val < 1 by unfold grp; dsimp only; rw [if_neg h]; omega),
      dif_neg (show ¬ (tok t r).val < 8192 by unfold tok; dsimp only; omega)]
    refine congrArg (fun z => a3 m c z _) (Fin.ext ?_)
    unfold grp tok; dsimp only; rw [if_neg h]; omega

/-- A load read at an index. -/
theorem ld_at {S : Shape} {e : EltTy} (X : S.Idx → Elt Ideal e) (r : Rect S) (x : r.shape.Idx) (y : S.Idx) (h : ∀ a, (r.idx x a).val = (y a).val) :
    View.ld X r x = X y := congrArg X (funext fun a => Fin.ext (h a))

/-- The product of block `t` at an index. -/
theorem pay_blk (t : Fin cfg0.N) (r : Fin 256) (j : Fin 3712) :
    k0_pay2 (View.ld (iblk m c 0 t) r0_0) (View.ld (iblk m c 2 t) r0_1) (View.ld (iblk m c 1 t) r0_2) (View.ld (iblk m c 1 t) r0_3) (View.ld (iblk m c 3 t) r0_4) (ix2 r j)
      = out (a0 m c) (a1 m c) (a2 m c) (a3 m c) (a4 m c) (a5 m c) (tok t r) (place j.val) := by
  rw [pay_at]
  have h0 : (fun k => View.ld (iblk m c 0 t) r0_0 (ix2 r k)) = row (a0 m c) (a1 m c) (tok t r) := funext fun k =>
    (ld_at _ _ _ (ix2 r k) fun a => by fin_cases a; exacts [show 0 + 1 * r.val = r.val by omega, show 0 + 1 * k.val = k.val by omega]).trans
      ((blk0 m c t r k).trans (by rw [v7_eq, rowsOf_at]))
  have h2 : (fun k => View.ld (iblk m c 2 t) r0_1 (ix2 0 k)) = a4 m c := funext fun k =>
    (ld_at _ _ _ (ix2 0 k) fun a => by fin_cases a; exacts [rfl, show 0 + 1 * k.val = k.val by omega]).trans
      ((blk2 m c t k).trans (gain_at m c 0 k))
  have h3 : (fun k => View.ld (iblk m c 1 t) r0_3 (ix3 0 0 k)) = fun k => modn (a2 m c) (a3 m c) (tok t r) (shAt k) := funext fun k =>
    (ld_at _ _ _ (ix3 0 0 k) fun a => by fin_cases a; exacts [rfl, rfl, show 0 + 1 * k.val = k.val by omega]).trans
      ((blk1 m c t 0 k).trans (mod_tok m c t r 0 _ k (by decide) (show k.val = 0 * 1024 + k.val by omega)))
  have h1 : (fun k => View.ld (iblk m c 1 t) r0_2 (ix3 0 0 k)) = fun k => modn (a2 m c) (a3 m c) (tok t r) (scAt k) := funext fun k =>
    (ld_at _ _ _ (ix3 0 1 k) fun a => by fin_cases a; exacts [rfl, rfl, show 0 + 1 * k.val = k.val by omega]).trans
      ((blk1 m c t 1 k).trans (mod_tok m c t r 1 _ k (by decide) (show 1024 + k.val = 1 * 1024 + k.val by omega)))
  have h4 : (fun k => View.ld (iblk m c 3 t) r0_4 (ix2 k j)) = wcol (a5 m c) (place j.val) := funext fun k =>
    (ld_at _ _ _ (ix2 k j) fun a => by fin_cases a; exacts [show 0 + 1 * k.val = k.val by omega, show 0 + 1 * j.val = j.val by omega]).trans
      ((blk3 m c t k j).trans (by rw [v19_eq, wperm_at]))
  unfold out
  rw [h0, h1, h2, h3, h4]

end Cert.Kernel2Ideal.Hand

end
-- ==== Proof.ProjFinal.lean ====
/- The projection kernel's result arrays at the end. -/
module

public import proofs.«01_k».proof.Proof.ProjKernel

@[expose] public section

noncomputable section

namespace Cert.Kernel2Ideal.Hand

open Idealize.ShloMosaic Idealize.ShloMosaic.TcCoe Idealize.ShloMosaic.Tactic
open Cert.Kernel2Ideal Cert.Kernel2Ideal.Gen Cert.Kernel2Ideal.Value Cert.Proj

variable (m : (ℓ : Loc nD τ sig) → Buf (Elt Ideal) ℓ) (c : Dev nD)

/-- The kernel's result 0. -/
def res4 : Vec Ideal S12288x1024 .f32 := fun y => out (a0 m c) (a1 m c) (a2 m c) (a3 m c) (a4 m c) (a5 m c) (y 0) (place (0 + (y 1).val))

theorem out4_at (t : Fin cfg0.N) (y : S256x1024.Idx) : out0_4 (iblk m c 0 t) (iblk m c 1 t) (iblk m c 2 t) (iblk m c 3 t) y
    = out (a0 m c) (a1 m c) (a2 m c) (a3 m c) (a4 m c) (a5 m c) (tok t (y 0)) (place (0 + (y 1).val)) := by
  have hy : (y 1).val < 1024 := (y 1).isLt
  refine (canon4_eq (View.ld (iblk m c 0 t) r0_0) (View.ld (iblk m c 2 t) r0_1) (View.ld (iblk m c 1 t) r0_2) (View.ld (iblk m c 1 t) r0_3) (View.ld (iblk m c 3 t) r0_4) y).trans ?_
  have e : ix4_0 y = ix2 (y 0) (⟨0 + (y 1).val, by omega⟩ : Fin 3712) := by
    funext a; fin_cases a
    · rfl
    · exact Fin.ext (show (y 1).val = 0 + (y 1).val by omega)
  exact (congrArg _ e).trans (pay_blk m c t (y 0) ⟨0 + (y 1).val, by omega⟩)

theorem res_of4 (t : Fin cfg0.N) (y : S256x1024.Idx) (i : S12288x1024.Idx) (h0 : (i 0).val = t.val * 256 + (y 0).val) (h1 : (i 1).val = (y 1).val) :
    out (a0 m c) (a1 m c) (a2 m c) (a3 m c) (a4 m c) (a5 m c) (tok t (y 0)) (place (0 + (y 1).val)) = res4 m c i := by
  unfold res4
  rw [show tok t (y 0) = i 0 from Fin.ext (show 256 * t.val + (y 0).val = (i 0).val by omega), h1]

theorem final4 : (dats m 0 c).arrAt 4 cfg0.N = res4 m c := by
  refine (dats m 0 c).arrAt_eq_of_covers 4 _ (by decide +kernel) fun t _ y => ?_
  blk_simp
  rw [after0_4, out4_at]
  refine res_of4 m c t y _ ?_ ?_
  · blk_simp [idx t]
  · blk_simp [idx t]

/-- The kernel's result 1. -/
def res5 : Vec Ideal S12288x1024 .f32 := fun y => out (a0 m c) (a1 m c) (a2 m c) (a3 m c) (a4 m c) (a5 m c) (y 0) (place (1024 + (y 1).val))

theorem out5_at (t : Fin cfg0.N) (y : S256x1024.Idx) : out0_5 (iblk m c 0 t) (iblk m c 1 t) (iblk m c 2 t) (iblk m c 3 t) y
    = out (a0 m c) (a1 m c) (a2 m c) (a3 m c) (a4 m c) (a5 m c) (tok t (y 0)) (place (1024 + (y 1).val)) := by
  have hy : (y 1).val < 1024 := (y 1).isLt
  refine (canon5_eq (View.ld (iblk m c 0 t) r0_0) (View.ld (iblk m c 2 t) r0_1) (View.ld (iblk m c 1 t) r0_2) (View.ld (iblk m c 1 t) r0_3) (View.ld (iblk m c 3 t) r0_4) y).trans ?_
  have e : ix5_0 y = ix2 (y 0) (⟨1024 + (y 1).val, by omega⟩ : Fin 3712) := by
    funext a; fin_cases a
    · rfl
    · exact Fin.ext (show (y 1).val + 1024 = 1024 + (y 1).val by omega)
  exact (congrArg _ e).trans (pay_blk m c t (y 0) ⟨1024 + (y 1).val, by omega⟩)

theorem res_of5 (t : Fin cfg0.N) (y : S256x1024.Idx) (i : S12288x1024.Idx) (h0 : (i 0).val = t.val * 256 + (y 0).val) (h1 : (i 1).val = (y 1).val) :
    out (a0 m c) (a1 m c) (a2 m c) (a3 m c) (a4 m c) (a5 m c) (tok t (y 0)) (place (1024 + (y 1).val)) = res5 m c i := by
  unfold res5
  rw [show tok t (y 0) = i 0 from Fin.ext (show 256 * t.val + (y 0).val = (i 0).val by omega), h1]

theorem final5 : (dats m 0 c).arrAt 5 cfg0.N = res5 m c := by
  refine (dats m 0 c).arrAt_eq_of_covers 5 _ (by decide +kernel) fun t _ y => ?_
  blk_simp
  rw [after0_5, out5_at]
  refine res_of5 m c t y _ ?_ ?_
  · blk_simp [idx t]
  · blk_simp [idx t]

/-- The kernel's result 2. -/
def res6 : Vec Ideal S12288x1536 .f32 := fun y => out (a0 m c) (a1 m c) (a2 m c) (a3 m c) (a4 m c) (a5 m c) (y 0) (place (2048 + (y 1).val))

theorem out6_at (t : Fin cfg0.N) (y : S256x1536.Idx) : out0_6 (iblk m c 0 t) (iblk m c 1 t) (iblk m c 2 t) (iblk m c 3 t) y
    = out (a0 m c) (a1 m c) (a2 m c) (a3 m c) (a4 m c) (a5 m c) (tok t (y 0)) (place (2048 + (y 1).val)) := by
  have hy : (y 1).val < 1536 := (y 1).isLt
  refine (canon6_eq (View.ld (iblk m c 0 t) r0_0) (View.ld (iblk m c 2 t) r0_1) (View.ld (iblk m c 1 t) r0_2) (View.ld (iblk m c 1 t) r0_3) (View.ld (iblk m c 3 t) r0_4) y).trans ?_
  have e : ix6_0 y = ix2 (y 0) (⟨2048 + (y 1).val, by omega⟩ : Fin 3712) := by
    funext a; fin_cases a
    · rfl
    · exact Fin.ext (show (y 1).val + 2048 = 2048 + (y 1).val by omega)
  exact (congrArg _ e).trans (pay_blk m c t (y 0) ⟨2048 + (y 1).val, by omega⟩)

theorem res_of6 (t : Fin cfg0.N) (y : S256x1536.Idx) (i : S12288x1536.Idx) (h0 : (i 0).val = t.val * 256 + (y 0).val) (h1 : (i 1).val = (y 1).val) :
    out (a0 m c) (a1 m c) (a2 m c) (a3 m c) (a4 m c) (a5 m c) (tok t (y 0)) (place (2048 + (y 1).val)) = res6 m c i := by
  unfold res6
  rw [show tok t (y 0) = i 0 from Fin.ext (show 256 * t.val + (y 0).val = (i 0).val by omega), h1]

theorem final6 : (dats m 0 c).arrAt 6 cfg0.N = res6 m c := by
  refine (dats m 0 c).arrAt_eq_of_covers 6 _ (by decide +kernel) fun t _ y => ?_
  blk_simp
  rw [after0_6, out6_at]
  refine res_of6 m c t y _ ?_ ?_
  · blk_simp [idx t]
  · blk_simp [idx t]

/-- The kernel's result 3. -/
def res7 : Vec Ideal S12288x128 .f32 := fun y => out (a0 m c) (a1 m c) (a2 m c) (a3 m c) (a4 m c) (a5 m c) (y 0) (place (3584 + (y 1).val))

theorem out7_at (t : Fin cfg0.N) (y : S256x128.Idx) : out0_7 (iblk m c 0 t) (iblk m c 1 t) (iblk m c 2 t) (iblk m c 3 t) y
    = out (a0 m c) (a1 m c) (a2 m c) (a3 m c) (a4 m c) (a5 m c) (tok t (y 0)) (place (3584 + (y 1).val)) := by
  have hy : (y 1).val < 128 := (y 1).isLt
  refine (canon7_eq (View.ld (iblk m c 0 t) r0_0) (View.ld (iblk m c 2 t) r0_1) (View.ld (iblk m c 1 t) r0_2) (View.ld (iblk m c 1 t) r0_3) (View.ld (iblk m c 3 t) r0_4) y).trans ?_
  have e : ix7_0 y = ix2 (y 0) (⟨3584 + (y 1).val, by omega⟩ : Fin 3712) := by
    funext a; fin_cases a
    · rfl
    · exact Fin.ext (show (y 1).val + 3584 = 3584 + (y 1).val by omega)
  exact (congrArg _ e).trans (pay_blk m c t (y 0) ⟨3584 + (y 1).val, by omega⟩)

theorem res_of7 (t : Fin cfg0.N) (y : S256x128.Idx) (i : S12288x128.Idx) (h0 : (i 0).val = t.val * 256 + (y 0).val) (h1 : (i 1).val = (y 1).val) :
    out (a0 m c) (a1 m c) (a2 m c) (a3 m c) (a4 m c) (a5 m c) (tok t (y 0)) (place (3584 + (y 1).val)) = res7 m c i := by
  unfold res7
  rw [show tok t (y 0) = i 0 from Fin.ext (show 256 * t.val + (y 0).val = (i 0).val by omega), h1]

theorem final7 : (dats m 0 c).arrAt 7 cfg0.N = res7 m c := by
  refine (dats m 0 c).arrAt_eq_of_covers 7 _ (by decide +kernel) fun t _ y => ?_
  blk_simp
  rw [after0_7, out7_at]
  refine res_of7 m c t y _ ?_ ?_
  · blk_simp [idx t]
  · blk_simp [idx t]

end Cert.Kernel2Ideal.Hand

end
-- ==== Proof.ProjRef.lean ====
/- The projection's reference at an index. -/
module

public import proofs.«01_k».proof.Proof.Gen.Reference2Ideal.Read
public import proofs.«01_k».proof.Proof.ProjSpec
public import Idealize.ShloMosaic.Lib.Pointwise

@[expose] public section

set_option maxRecDepth 1000000

noncomputable section

namespace Cert.Reference2Ideal.Hand

open Idealize.ShloMosaic Cert.Reference2Ideal Cert.Reference2Ideal.Gen Cert.Reference2Ideal.Read Cert.Proj
open scoped BigOperators

variable (x0 : FVec Ideal S32x256x1024 .f32) (x1 : FVec Ideal S4x1024x1024 .f32) (x2 : FVec Ideal S6144 .f32) (x3 : FVec Ideal S4x6144 .f32)
  (x4 : FVec Ideal S1024 .f32) (x5 : FVec Ideal S1024x3616 .f32)

/-- The prompts' normalized and modulated rows. -/
theorem v38_at (b : Fin 32) (p : Fin 256) (k : Fin 1024) : val_main_v38 (F := Ideal) x0 x2 x4 (ix3 b p k)
    = act (fun k => x0 (ix3 b p k)) (fun k => x4 (ix1 k)) (fun k => x2 (ix1 (shAt k))) (fun k => x2 (ix1 (scAt k))) k := by
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v0 val_main_v1 val_main_cst val_main_cst_0 val_main_cst_1 val_main_cst_2 act shAt scAt
  pointwise

/-- The samples'. -/
theorem v57_at (b : Fin 4) (p : Fin 1024) (k : Fin 1024) : val_main_v57 (F := Ideal) x1 x3 x4 (ix3 b p k)
    = act (fun k => x1 (ix3 b p k)) (fun k => x4 (ix1 k)) (fun k => x3 (ix2 b (shAt k))) (fun k => x3 (ix2 b (scAt k))) k := by
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v13 val_main_v12 val_main_v7 val_main_v6 val_main_cst_3 val_main_cst_4 val_main_cst_5 val_main_cst_6 act shAt scAt
  pointwise

/-- The prompts' projections. -/
theorem v58_at (b : Fin 32) (p : Fin 256) (n : Fin 3616) : val_main_v58 (F := Ideal) x0 x2 x4 x5 (ix3 b p n)
    = proj (fun k => x0 (ix3 b p k)) (fun k => x4 (ix1 k)) (fun k => x2 (ix1 (shAt k))) (fun k => x2 (ix1 (scAt k))) (fun k => x5 (ix2 k n)) := by
  unfold val_main_v58 proj
  pointwise [v38_at]

/-- The samples'. -/
theorem v77_at (b : Fin 4) (p : Fin 1024) (n : Fin 3616) : val_main_v77 (F := Ideal) x1 x3 x4 x5 (ix3 b p n)
    = proj (fun k => x1 (ix3 b p k)) (fun k => x4 (ix1 k)) (fun k => x3 (ix2 b (shAt k))) (fun k => x3 (ix2 b (scAt k))) (fun k => x5 (ix2 k n)) := by
  unfold val_main_v77 proj
  pointwise [v57_at]

/-- Column `n` of token `r`'s projection. -/
abbrev o (r : Fin 12288) (n : ℕ) : EReal := out (fun i j k => x0 (ix3 i j k)) (fun i j k => x1 (ix3 i j k)) (fun i => x2 (ix1 i))
  (fun i j => x3 (ix2 i j)) (fun i => x4 (ix1 i)) (fun i j => x5 (ix2 i j)) r n

theorem out_prompt (r : Fin 12288) (n : Fin 3616) (h : r.val < 8192) :
    val_main_v58 (F := Ideal) x0 x2 x4 x5 (ix3 ⟨r.val / 256, by omega⟩ ⟨r.val % 256, by omega⟩ n) = o x0 x1 x2 x3 x4 x5 r n.val := by
  rw [v58_at]
  unfold o out row modn wcol
  simp only [dif_pos h, dif_pos n.isLt]

theorem out_sample (r : Fin 12288) (n : Fin 3616) (h : ¬ r.val < 8192) :
    val_main_v77 (F := Ideal) x1 x3 x4 x5 (ix3 ⟨(r.val - 8192) / 1024, by omega⟩ ⟨(r.val - 8192) % 1024, by omega⟩ n) = o x0 x1 x2 x3 x4 x5 r n.val := by
  rw [v77_at]
  unfold o out row modn wcol
  simp only [dif_neg h, dif_pos n.isLt]

theorem v96_at (r : Fin 12288) (j : Fin 256) : val_main_v96 (F := Ideal) x0 x1 x2 x3 x4 x5 (ix2 r j) = o x0 x1 x2 x3 x4 x5 r j.val := by
  unfold val_main_v96 val_main_v68 val_main_v87 val_main_v59 val_main_v78
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨j.val, by omega⟩ h
  all_goals exact out_sample x0 x1 x2 x3 x4 x5 r ⟨j.val, by omega⟩ h

theorem v97_at (r : Fin 12288) (j : Fin 256) : val_main_v97 (F := Ideal) x0 x1 x2 x3 x4 x5 (ix2 r j) = o x0 x1 x2 x3 x4 x5 r (256 + j.val) := by
  unfold val_main_v97 val_main_v69 val_main_v88 val_main_v60 val_main_v79
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨256 + j.val, by omega⟩ h
  all_goals exact out_sample x0 x1 x2 x3 x4 x5 r ⟨256 + j.val, by omega⟩ h

theorem v98_at (r : Fin 12288) (j : Fin 512) : val_main_v98 (F := Ideal) x0 x1 x2 x3 x4 x5 (ix2 r j) = o x0 x1 x2 x3 x4 x5 r (512 + j.val) := by
  unfold val_main_v98 val_main_v70 val_main_v89 val_main_v61 val_main_v80
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨512 + j.val, by omega⟩ h
  all_goals exact out_sample x0 x1 x2 x3 x4 x5 r ⟨512 + j.val, by omega⟩ h

theorem v99_at (r : Fin 12288) (j : Fin 16) : val_main_v99 (F := Ideal) x0 x1 x2 x3 x4 x5 (ix2 r j) = o x0 x1 x2 x3 x4 x5 r (1024 + j.val) := by
  unfold val_main_v99 val_main_v71 val_main_v90 val_main_v62 val_main_v81
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨1024 + j.val, by omega⟩ h
  all_goals exact out_sample x0 x1 x2 x3 x4 x5 r ⟨1024 + j.val, by omega⟩ h

theorem v100_at (r : Fin 12288) (j : Fin 512) : val_main_v100 (F := Ideal) x0 x1 x2 x3 x4 x5 (ix2 r j) = o x0 x1 x2 x3 x4 x5 r (1040 + j.val) := by
  unfold val_main_v100 val_main_v72 val_main_v91 val_main_v63 val_main_v82
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨1040 + j.val, by omega⟩ h
  all_goals exact out_sample x0 x1 x2 x3 x4 x5 r ⟨1040 + j.val, by omega⟩ h

theorem v101_at (r : Fin 12288) (j : Fin 1536) : val_main_v101 (F := Ideal) x0 x1 x2 x3 x4 x5 (ix2 r j) = o x0 x1 x2 x3 x4 x5 r (1552 + j.val) := by
  unfold val_main_v101 val_main_v73 val_main_v92 val_main_v64 val_main_v83
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨1552 + j.val, by omega⟩ h
  all_goals exact out_sample x0 x1 x2 x3 x4 x5 r ⟨1552 + j.val, by omega⟩ h

theorem v102_at (r : Fin 12288) (j : Fin 8) : val_main_v102 (F := Ideal) x0 x1 x2 x3 x4 x5 (ix2 r j) = o x0 x1 x2 x3 x4 x5 r (3088 + j.val) := by
  unfold val_main_v102 val_main_v74 val_main_v93 val_main_v65 val_main_v84
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨3088 + j.val, by omega⟩ h
  all_goals exact out_sample x0 x1 x2 x3 x4 x5 r ⟨3088 + j.val, by omega⟩ h

theorem v103_at (r : Fin 12288) (j : Fin 8) : val_main_v103 (F := Ideal) x0 x1 x2 x3 x4 x5 (ix2 r j) = o x0 x1 x2 x3 x4 x5 r (3096 + j.val) := by
  unfold val_main_v103 val_main_v75 val_main_v94 val_main_v66 val_main_v85
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨3096 + j.val, by omega⟩ h
  all_goals exact out_sample x0 x1 x2 x3 x4 x5 r ⟨3096 + j.val, by omega⟩ h

theorem v104_at (r : Fin 12288) (j : Fin 512) : val_main_v104 (F := Ideal) x0 x1 x2 x3 x4 x5 (ix2 r j) = o x0 x1 x2 x3 x4 x5 r (3104 + j.val) := by
  unfold val_main_v104 val_main_v76 val_main_v95 val_main_v67 val_main_v86
  generalize e0 : val_main_v58 (F := Ideal) x0 x2 x4 x5 = y0
  generalize e1 : val_main_v77 (F := Ideal) x1 x3 x4 x5 = y1
  pointwise
  subst e0 e1
  split_ifs with h
  · exact out_prompt x0 x1 x2 x3 x4 x5 r ⟨3104 + j.val, by omega⟩ h
  all_goals exact out_sample x0 x1 x2 x3 x4 x5 r ⟨3104 + j.val, by omega⟩ h

theorem v106_at (r : Fin 12288) (j : Fin 1024) : val_main_v106 (F := Ideal) x0 x1 x2 x3 x4 x5 (ix2 r j) = o x0 x1 x2 x3 x4 x5 r (place (0 + j.val)) := by
  unfold val_main_v106
  pointwise [v96_at, v97_at, v98_at]
  split_ifs <;> first
    | (refine congrArg (o x0 x1 x2 x3 x4 x5 r) ?_; unfold place; split_ifs <;> omega)
    | exact (proj_zero _ _ _ _ _ _ (by unfold place; split_ifs <;> omega)).symm

theorem v107_at (r : Fin 12288) (j : Fin 1024) : val_main_v107 (F := Ideal) x0 x1 x2 x3 x4 x5 (ix2 r j) = o x0 x1 x2 x3 x4 x5 r (place (1024 + j.val)) := by
  unfold val_main_v107
  pointwise [v100_at, v104_at]
  split_ifs <;> first
    | (refine congrArg (o x0 x1 x2 x3 x4 x5 r) ?_; unfold place; split_ifs <;> omega)
    | exact (proj_zero _ _ _ _ _ _ (by unfold place; split_ifs <;> omega)).symm

theorem v101_place (r : Fin 12288) (j : Fin 1536) : val_main_v101 (F := Ideal) x0 x1 x2 x3 x4 x5 (ix2 r j) = o x0 x1 x2 x3 x4 x5 r (place (2048 + j.val)) := by
  rw [v101_at]
  refine congrArg (o x0 x1 x2 x3 x4 x5 r) ?_
  unfold place; split_ifs <;> omega

theorem v108_at (r : Fin 12288) (j : Fin 128) : val_main_v108 (F := Ideal) x0 x1 x2 x3 x4 x5 (ix2 r j) = o x0 x1 x2 x3 x4 x5 r (place (3584 + j.val)) := by
  unfold val_main_v108 val_main_v105 val_main_cst_7
  pointwise [v99_at, v102_at, v103_at]
  split_ifs <;> first
    | (refine congrArg (o x0 x1 x2 x3 x4 x5 r) ?_; unfold place; split_ifs <;> omega)
    | exact (proj_zero _ _ _ _ _ _ (by unfold place; split_ifs <;> omega)).symm

end Cert.Reference2Ideal.Hand

end
-- ==== Proof.Proj.lean ====
/- The projection: the runs of its kernel and its reference, and the equality of their results at exact values. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.ProjFinal
public import proofs.«01_k».proof.Proof.ProjRef
public import Idealize.ShloMosaic.Lib.Claim
public import Idealize.ShloMosaic.Lib.Quiescent
public import Idealize.ShloMosaic.Adequacy
public import Idealize.ShloMosaic.Init

@[expose] public section

noncomputable section

namespace Cert.Proof.Proj

open Idealize.ShloMosaic Idealize.ShloMosaic.StableHlo Idealize.ShloMosaic.TcCoe Idealize.SL.Sem

/-- The kernel, at the machine's own floats, runs to the end with its arguments unchanged. -/
theorem frame_kernel : Cert.quiescent_Kernel2 (hKernel2 := Cert.Kernel2.Gen.facts) := fun m ρ _ => Cert.Kernel2.Gen.frame m ρ

/-- The same at exact values. -/
theorem frame_kernelIdeal : Cert.quiescent_Kernel2Ideal (hKernel2Ideal := Cert.Kernel2Ideal.Gen.facts) := fun m ρ _ =>
  Cert.Kernel2Ideal.Gen.frame m ρ

/-- The reference, at exact values, runs to the end with its arguments unchanged. -/
theorem frame_referenceIdeal : Cert.quiescent_Reference2Ideal (hReference2Ideal := Cert.Reference2Ideal.Gen.facts) := fun m ρ _ =>
  (θ_run Cert.Reference2Ideal.defs _ _).mono (fun r h => ⟨fun c => (h c).2.2.2.2,
    Idealize.ShloMosaic.sem_eq_zero_of_no_sems (by decide) r.2⟩) (Cert.Reference2Ideal.Value.run (F := Ideal) m ρ)

open Cert.Kernel2Ideal Cert.Kernel2Ideal.Gen Cert.Kernel2Ideal.Hand in
/-- The kernel's run at exact values: its results and its arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21_0) = res4 m c
      ∧ r.2.mem ((c.tc : Thread nD τ).loc main_v21_1) = res5 m c
      ∧ r.2.mem ((c.tc : Thread nD τ).loc main_v21_2) = res6 m c
      ∧ r.2.mem ((c.tc : Thread nD τ).loc main_v21_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final4 m c), (h c).2.1.trans (final5 m c), (h c).2.2.1.trans (final6 m c),
      (h c).2.2.2.1.trans (final7 m c), (h c).2.2.2.2⟩) (Cert.Kernel2Ideal.Value.run_blocks (F := Ideal) m ρ)

open Cert.Reference2Ideal in
/-- The reference's run at exact values: its results over its arguments, and its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v106) = Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v107) = Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v101) = Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v108) = Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (Read.val_main_v106_eq m c), (h c).2.1.trans (Read.val_main_v107_eq m c),
      (h c).2.2.1.trans (Read.val_main_v101_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
      (h c).2.2.2.1.trans (Read.val_main_v108_eq m c), (h c).2.2.2.2⟩) (Value.run (F := Ideal) m ρ)

section Values

variable (m : (ℓ : Loc Cert.Kernel2Ideal.nD Cert.Kernel2Ideal.τ Cert.Kernel2Ideal.sig) → Buf (Elt Ideal) ℓ) (c : Dev Cert.Kernel2Ideal.nD)

/-- Result 0: the reference's is the kernel's. -/
theorem eq4 : Cert.Reference2Ideal.Read.val_main_v106 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = Cert.Kernel2Ideal.Hand.res4 m c := by
  funext j
  have e : j = ix2 (j 0) (j 1) := by funext a; fin_cases a <;> rfl
  rw [e]
  exact Cert.Reference2Ideal.Hand.v106_at _ _ _ _ _ _ (j 0) (j 1)

/-- Result 1: the reference's is the kernel's. -/
theorem eq5 : Cert.Reference2Ideal.Read.val_main_v107 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = Cert.Kernel2Ideal.Hand.res5 m c := by
  funext j
  have e : j = ix2 (j 0) (j 1) := by funext a; fin_cases a <;> rfl
  rw [e]
  exact Cert.Reference2Ideal.Hand.v107_at _ _ _ _ _ _ (j 0) (j 1)

/-- Result 2: the reference's is the kernel's. -/
theorem eq6 : Cert.Reference2Ideal.Read.val_main_v101 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = Cert.Kernel2Ideal.Hand.res6 m c := by
  funext j
  have e : j = ix2 (j 0) (j 1) := by funext a; fin_cases a <;> rfl
  rw [e]
  exact Cert.Reference2Ideal.Hand.v101_place _ _ _ _ _ _ (j 0) (j 1)

/-- Result 3: the reference's is the kernel's. -/
theorem eq7 : Cert.Reference2Ideal.Read.val_main_v108 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = Cert.Kernel2Ideal.Hand.res7 m c := by
  funext j
  have e : j = ix2 (j 0) (j 1) := by funext a; fin_cases a <;> rfl
  rw [e]
  exact Cert.Reference2Ideal.Hand.v108_at _ _ _ _ _ _ (j 0) (j 1)

end Values

/-- From agreeing arguments, kernel and reference leave equal results, element by element. -/
theorem values : Cert.algebraic_Kernel2Ideal_Reference2Ideal (hKernel2Ideal := Cert.Kernel2Ideal.Gen.facts)
    (hReference2Ideal := Cert.Reference2Ideal.Gen.facts) := fun m ρ m' ρ' _ hargs =>
  ⟨fun c => Cert.Kernel2Ideal.Hand.res4 m c, fun c => Cert.Kernel2Ideal.Hand.res5 m c, fun c => Cert.Kernel2Ideal.Hand.res6 m c,
    fun c => Cert.Kernel2Ideal.Hand.res7 m c, kernel_run m ρ,
    (θ_run Cert.Reference2Ideal.defs _ _).mono (fun r h c => by
      obtain ⟨b0, b1, b2, b3, b4, b5⟩ := hargs c
      obtain ⟨h0, h1, h2, h3, hr⟩ := h c
      rw [b0, b1, b2, b3, b4, b5] at h0 h1 h2 h3
      exact ⟨h0.trans (eq4 m c), h1.trans (eq5 m c), h2.trans (eq6 m c), h3.trans (eq7 m c), hr⟩) (reference_run m' ρ')⟩

end Cert.Proof.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Twin.ExpOk
public import proofs.«01_k».proof.Proof.ExpFinal
public import proofs.«01_k».proof.Proof.ExpPre
public import proofs.«01_k».proof.Proof.ExpRef
public import proofs.«01_k».proof.Proof.Proj
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem

/-- With the tables in range the kernel's blocks lie inside their arrays. -/
theorem ok_kernel (m : (ℓ : Loc Cert.Kernel.nD Cert.Kernel.τ Cert.Kernel.sig) → Buf (Elt Bits) ℓ)
    (h : Cert.Pre_Kernel (hPre_tables_in_range := Cert.Pre_tables_in_range.Gen.facts) m) : Cert.Kernel.Hand.Ok m ∧ 1 ≤ (Cert.Kernel.Hand.nb m).toInt :=
  Cert.Kernel.Hand.ok_args m (Cert.Pre_tables_in_range.Hand.bounds (F := Bits) _ _ _ _ _ _ _ (h 0))

theorem ok_kernelIdeal (m : (ℓ : Loc Cert.KernelIdeal.nD Cert.KernelIdeal.τ Cert.KernelIdeal.sig) → Buf (Elt Ideal) ℓ)
    (h : Cert.Pre_KernelIdeal (hPre_tables_in_range := Cert.Pre_tables_in_range.Gen.facts) m) : Cert.KernelIdeal.Hand.Ok m ∧ 1 ≤ (Cert.KernelIdeal.Hand.nb m).toInt :=
  Cert.KernelIdeal.Hand.ok_args m (Cert.Pre_tables_in_range.Hand.bounds (F := Ideal) _ _ _ _ _ _ _ (h 0))

/-- The kernel, at the machine's own floats, runs to the end with its arguments unchanged. -/
theorem frame_kernel : Cert.quiescent_Kernel (hKernel := Cert.Kernel.Gen.facts) (hPre_tables_in_range := Cert.Pre_tables_in_range.Gen.facts) :=
  fun m ρ h => Cert.Kernel.Hand.frame m ρ (ok_kernel m h).1

/-- The kernel, at exact values, runs to the end with its arguments unchanged. -/
theorem frame_kernelIdeal : Cert.quiescent_KernelIdeal (hKernelIdeal := Cert.KernelIdeal.Gen.facts) (hPre_tables_in_range := Cert.Pre_tables_in_range.Gen.facts) :=
  fun m ρ h => Cert.KernelIdeal.Hand.frame m ρ (ok_kernelIdeal m h).1

/-- The reference, at exact values, runs to the end with its arguments unchanged. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The same with the tables in range, which it does not need. -/
theorem frame_referenceIdeal_tables : Cert.quiescent_ReferenceIdeal_pre_tables_in_range (hReferenceIdeal := Cert.ReferenceIdeal.Gen.facts)
    (hPre_tables_in_range := Cert.Pre_tables_in_range.Gen.facts) := fun m ρ _ => frame_referenceIdeal m ρ trivial

open Cert.KernelIdeal Cert.KernelIdeal.Gen Cert.KernelIdeal.Hand in
/-- The kernel's run at exact values: its result and its arguments. -/
theorem kernel_run (m : (ℓ : Loc nD τ sig) → Buf (Elt Ideal) ℓ) (ρ : Dev nD → PrngReg) (hO : Ok m) (hn : 1 ≤ (nb m).toInt) :
    θ_run (defs (F := Ideal)) (onTc (τ := τ) (main (F := Ideal))) ⟨m, fun _ => 0, ρ⟩ (fun r => ∀ c : Dev nD,
      r.2.mem ((c.tc : Thread nD τ).loc main_v5) = finalArr m c hO
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 6).trans (final_arr m c hO hn), h.2.1 c⟩)
    (θ_run_and (whole_run m ρ hO) (frame m ρ hO))

open Cert.ReferenceIdeal in
/-- The reference's run at exact values: its result over its arguments, and its arguments. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60) = Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (Read.val_main_v60_eq m c), (h c).2⟩) (Value.run (F := Ideal) m ρ)

/-- The experts' outputs: the reference's are the kernel's. -/
theorem result_eq (m : (ℓ : Loc Cert.KernelIdeal.nD Cert.KernelIdeal.τ Cert.KernelIdeal.sig) → Buf (Elt Ideal) ℓ) (c : Dev Cert.KernelIdeal.nD)
    (hO : Cert.KernelIdeal.Hand.Ok m) :
    Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Hand.finalArr m c hO := by
  obtain rfl : c = 0 := Subsingleton.elim _ _
  funext j
  have h0 : (j 0).val < 57344 := (j 0).isLt
  have hb : ∀ b : Fin 224, ((m (((0 : Dev Cert.KernelIdeal.nD).tc : Thread Cert.KernelIdeal.nD Cert.KernelIdeal.τ).loc Cert.KernelIdeal.main_arg0) : IVec Cert.KernelIdeal.S224 32) (ix1 b)).toNat < 32 := fun b =>
    lt_of_eq_of_lt (congrArg BitVec.toNat (Cert.KernelIdeal.Hand.be_arg m b).symm) (Cert.KernelIdeal.Hand.be_all m hO b)
  have er : Cert.ReferenceIdeal.Hand.row ⟨(j 0).val / 256, by omega⟩ ⟨(j 0).val % 256, by omega⟩ = j 0 := Fin.ext (by
    show 256 * ((j 0).val / 256) + (j 0).val % 256 = (j 0).val; omega)
  have e : j = ix2 (Cert.ReferenceIdeal.Hand.row ⟨(j 0).val / 256, by omega⟩ ⟨(j 0).val % 256, by omega⟩) (j 1) := by
    funext a
    match a with
    | ⟨0, _⟩ => exact er.symm
    | ⟨1, _⟩ => rfl
  refine (congrArg _ e).trans ((Cert.ReferenceIdeal.Hand.result_at _ _ _ _ _ _ _ hb _ _ _).trans ?_)
  rw [er]
  unfold Cert.KernelIdeal.Hand.finalArr Cert.KernelIdeal.Hand.rowv
  have ee : Cert.ReferenceIdeal.Hand.ex _ hb ⟨(j 0).val / 256, by omega⟩
      = ⟨(Cert.KernelIdeal.Hand.be m ⟨(j 0).val / 256, by omega⟩).toNat, Cert.KernelIdeal.Hand.be_all m hO _⟩ :=
    Fin.ext (congrArg BitVec.toNat (Cert.KernelIdeal.Hand.be_arg m _).symm)
  rw [ee]
  refine if_congr ?_ rfl rfl
  unfold Cert.KernelIdeal.Hand.inUse
  rw [Cert.KernelIdeal.Hand.nb_arg]

/-- From agreeing arguments with the tables in range, kernel and reference leave equal results, element by element. -/
theorem values : Cert.algebraic_KernelIdeal_ReferenceIdeal (hKernelIdeal := Cert.KernelIdeal.Gen.facts)
    (hReferenceIdeal := Cert.ReferenceIdeal.Gen.facts) (hPre_tables_in_range := Cert.Pre_tables_in_range.Gen.facts) := fun m ρ m' ρ' hpre hargs =>
  ⟨fun c => Cert.KernelIdeal.Hand.finalArr m c (ok_kernelIdeal m hpre).1,
    kernel_run m ρ (ok_kernelIdeal m hpre).1 (ok_kernelIdeal m hpre).2,
    (θ_run Cert.ReferenceIdeal.defs _ _).mono (fun r h c => by
      obtain ⟨a0, a1, a2, a3, a4, a5, a6⟩ := hargs c
      obtain ⟨h0, hr⟩ := h c
      rw [a0, a1, a2, a3, a4, a5, a6] at h0
      exact ⟨h0.trans (result_eq m c (ok_kernelIdeal m hpre).1), hr⟩) (reference_run m' ρ')⟩

/-- The certificate: the runs, the (empty) lists of rewrites of the idealization, and the values. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_tables_in_range.Gen.facts,
    frame_kernel, frame_kernelIdeal, frame_referenceIdeal, frame_referenceIdeal_tables,
    Proj.frame_kernel, Proj.frame_kernelIdeal, Proj.frame_referenceIdeal, trivial, values, trivial, Proj.values⟩

end Cert.Proof

end
